-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S1000x21 : Shape := ⟨2, ![1000, 21]⟩
abbrev S1000x128x128 : Shape := ⟨3, ![1000, 128, 128]⟩
abbrev S_ : Shape := ⟨0, ![]⟩
abbrev S1000 : Shape := ⟨1, ![1000]⟩
abbrev S1000x1 : Shape := ⟨2, ![1000, 1]⟩
abbrev S1000x16384 : Shape := ⟨2, ![1000, 16384]⟩
abbrev S16384 : Shape := ⟨1, ![16384]⟩
abbrev S1x16384 : Shape := ⟨2, ![1, 16384]⟩

class Facts : Prop where
  reducesTo_S1000x21_S1000_d1 : S1000x21.ReducesTo [1] S1000
  h_S_ : 0 < S_.numel
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x21_0_1 : S1000x1.BroadcastsInDim S1000x21 (![0, 1] : Fin 2 → Fin S1000x21.rank)
  shapeCasts_S1000x128x128_S1000x16384 : S1000x128x128.ShapeCasts S1000x16384
  bcast_S1000x1_S1000x16384_0_1 : S1000x1.BroadcastsInDim S1000x16384 (![0, 1] : Fin 2 → Fin S1000x16384.rank)
  bcast_S_S1000x16384 : S_.BroadcastsInDim S1000x16384 (![] : Fin 0 → Fin S1000x16384.rank)
  reducesTo_S1000x16384_S16384_d0 : S1000x16384.ReducesTo [0] S16384
  bcast_S16384_S1x16384_1 : S16384.BroadcastsInDim S1x16384 (![1] : Fin 1 → Fin S1x16384.rank)
  bcast_S1x16384_S1000x16384_0_1 : S1x16384.BroadcastsInDim S1000x16384 (![0, 1] : Fin 2 → Fin S1000x16384.rank)
  natLt_1_32 : 1 < 32
  bcast_S_S1x16384 : S_.BroadcastsInDim S1x16384 (![] : Fin 0 → Fin S1x16384.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S1000x21 .f32) : IVec S1000 32 :=
  let v0 : IVec S1000x21 32 := iotaInDim S1000x21 32 1
  let cst : FVec F S_ .f32 := constant S_ .f32 0xFF800000#32
  let c : IVec S_ 32 := constantI S_ 32 0#32
  let v1_0 : FVec F S1000 .f32 := (fun x y u v j => (Host.argReduce reducer_argmax_f32_i32 x y u v reducesTo_S1000x21_S1000_d1 h_S_ j).1) arg0 v0 cst c
  let v1_1 : IVec S1000 32 := (fun x y u v j => (Host.argReduce reducer_argmax_f32_i32 x y u v reducesTo_S1000x21_S1000_d1 h_S_ j).2) arg0 v0 cst c
  v1_1

def fn_where {F : FTy → Type} [FloatOps F] (arg0 : IVec S1000x1 1) (arg1 : FVec F S1000x16384 .f32) (arg2 : FVec F S_ .f32) : FVec F S1000x16384 .f32 :=
  let v0 : FVec F S_ .f32 := id arg2
  let v1 : IVec S1000x16384 1 := broadcastInDim S1000x16384 ![0, 1] bcast_S1000x1_S1000x16384_0_1 arg0
  let v2 : FVec F S1000x16384 .f32 := broadcastInDim S1000x16384 ![] bcast_S_S1000x16384 v0
  let v3 : FVec F S1000x16384 .f32 := select v1 arg1 v2
  v3

def fn_part1 {F : FTy → Type} [FloatOps F] (main_arg1 : FVec F S1000x128x128 .f32) (main_v17 : IVec S1000 1) : IVec S1x16384 1 :=
  let main_v18 : IVec S1000x1 1 := broadcastInDim S1000x1 ![0] bcast_S1000_S1000x1_0 main_v17
  let main_v19 : FVec F S1000x16384 .f32 := shapeCast S1000x16384 main_arg1 shapeCasts_S1000x128x128_S1000x16384
  let main_cst_4 : FVec F S_ .f32 := constant S_ .f32 0xC7C34F80#32
  let main_v20 : FVec F S1000x16384 .f32 := fn_where (F := F) main_v18 main_v19 main_cst_4
  let main_cst_5 : FVec F S_ .f32 := constant S_ .f32 0xFF800000#32
  let main_v21 : FVec F S16384 .f32 := (fun x v => Host.reduce FloatOps.maximumf x v reducesTo_S1000x16384_S16384_d0 h_S_) main_v20 main_cst_5
  let main_v22 : FVec F S1x16384 .f32 := broadcastInDim S1x16384 ![1] bcast_S16384_S1x16384_1 main_v21
  let main_v23 : FVec F S1000x16384 .f32 := broadcastInDim S1000x16384 ![0, 1] bcast_S1x16384_S1000x16384_0_1 main_v22
  let main_v24 : FVec F S1000x16384 .f32 := subf main_v20 main_v23
  let main_v25 : FVec F S1000x16384 .f32 := Host.exp main_v24
  let main_cst_6 : FVec F S_ .f32 := constant S_ .f32 0xFF800000#32
  let main_v26 : FVec F S16384 .f32 := (fun x v => Host.reduce FloatOps.maximumf x v reducesTo_S1000x16384_S16384_d0 h_S_) main_v25 main_cst_6
  let main_v27 : FVec F S1x16384 .f32 := broadcastInDim S1x16384 ![1] bcast_S16384_S1x16384_1 main_v26
  let main_v28 : FVec F S1000x16384 .f32 := broadcastInDim S1000x16384 ![0, 1] bcast_S1x16384_S1000x16384_0_1 main_v27
  let main_v29 : IVec S1000x16384 1 := cmpf .oeq main_v25 main_v28
  let main_v30 : IVec S1000x16384 32 := (extui 32 · natLt_1_32) main_v29
  let main_c_7 : IVec S_ 32 := constantI S_ 32 0#32
  let main_v31 : IVec S16384 32 := (fun x v => Host.reduce IntOp.addi x v reducesTo_S1000x16384_S16384_d0 h_S_) main_v30 main_c_7
  let main_v32 : IVec S1x16384 32 := broadcastInDim S1x16384 ![1] bcast_S16384_S1x16384_1 main_v31
  let main_c_8 : IVec S_ 32 := constantI S_ 32 1#32
  let main_v33 : IVec S1x16384 32 := broadcastInDim S1x16384 ![] bcast_S_S1x16384 main_c_8
  let main_v34 : IVec S1x16384 1 := cmpi .eq main_v32 main_v33
  main_v34

def fn {F : FTy → Type} [FloatOps F] (main_arg0 : FVec F S1000x21 .f32) (main_arg1 : FVec F S1000x128x128 .f32) : IVec S1x16384 1 :=
  let main_cst : FVec F S_ .f32 := constant S_ .f32 0xFF800000#32
  let main_v0 : FVec F S1000 .f32 := (fun x v => Host.reduce FloatOps.maximumf x v reducesTo_S1000x21_S1000_d1 h_S_) main_arg0 main_cst
  let main_cst_0 : FVec F S_ .f32 := constant S_ .f32 0xFF800000#32
  let main_v1 : FVec F S1000 .f32 := broadcastInDim S1000 ![] bcast_S_S1000 main_cst_0
  let main_v2 : FVec F S1000 .f32 := maximumf main_v1 main_v0
  let main_v3 : FVec F S1000x1 .f32 := broadcastInDim S1000x1 ![0] bcast_S1000_S1000x1_0 main_v2
  let main_v4 : FVec F S1000x21 .f32 := broadcastInDim S1000x21 ![0, 1] bcast_S1000x1_S1000x21_0_1 main_v3
  let main_v5 : FVec F S1000x21 .f32 := subf main_arg0 main_v4
  let main_v6 : FVec F S1000x21 .f32 := Host.exp main_v5
  let main_cst_1 : FVec F S_ .f32 := constant S_ .f32 0x00000000#32
  let main_v7 : FVec F S1000 .f32 := (fun x v => Host.reduceAdd x v reducesTo_S1000x21_S1000_d1 h_S_) main_v6 main_cst_1
  let main_v8 : FVec F S1000x1 .f32 := broadcastInDim S1000x1 ![0] bcast_S1000_S1000x1_0 main_v7
  let main_v9 : FVec F S1000x21 .f32 := broadcastInDim S1000x21 ![0, 1] bcast_S1000x1_S1000x21_0_1 main_v8
  let main_v10 : FVec F S1000x21 .f32 := Host.divf main_v6 main_v9
  let main_v11 : IVec S1000 32 := fn_argmax (F := F) main_v10
  let main_c : IVec S_ 32 := constantI S_ 32 20#32
  let main_v12 : IVec S1000 32 := broadcastInDim S1000 ![] bcast_S_S1000 main_c
  let main_v13 : IVec S1000 1 := cmpi .ne main_v11 main_v12
  let main_cst_2 : FVec F S_ .f32 := constant S_ .f32 0xFF800000#32
  let main_v14 : FVec F S1000 .f32 := (fun x v => Host.reduce FloatOps.maximumf x v reducesTo_S1000x21_S1000_d1 h_S_) main_v10 main_cst_2
  let main_cst_3 : FVec F S_ .f32 := constant S_ .f32 0x3DCCCCCD#32
  let main_v15 : FVec F S1000 .f32 := broadcastInDim S1000 ![] bcast_S_S1000 main_cst_3
  let main_v16 : IVec S1000 1 := cmpf .ogt main_v14 main_v15
  let main_v17 : IVec S1000 1 := andi main_v13 main_v16
  fn_part1 (F := F) main_arg1 main_v17
-- ==== Kernel.lean ====
abbrev S1000x21 : Shape := ⟨2, ![1000, 21]⟩
abbrev S1000x128x128 : Shape := ⟨3, ![1000, 128, 128]⟩
abbrev S1000x1 : Shape := ⟨2, ![1000, 1]⟩
abbrev S1000x16384 : Shape := ⟨2, ![1000, 16384]⟩
abbrev S1x16384 : Shape := ⟨2, ![1, 16384]⟩
abbrev S1000x16x128 : Shape := ⟨3, ![1000, 16, 128]⟩
abbrev S1000x2048 : Shape := ⟨2, ![1000, 2048]⟩
abbrev S1x2048 : Shape := ⟨2, ![1, 2048]⟩
abbrev S1000 : Shape := ⟨1, ![1000]⟩
abbrev S2048 : Shape := ⟨1, ![2048]⟩
abbrev S16384 : Shape := ⟨1, ![16384]⟩

abbrev nBuf : Space → Nat
  | .hbm => 9
  | .vmem => 9
  | .smem => 0
  | _ => 0

abbrev bufTy : (tb : Table) → Fin (tcTables nBuf tb) → BufTy
  | .hbm, ⟨0, _⟩ => ⟨S1000x21, .f32⟩
  | .hbm, ⟨1, _⟩ => ⟨S1000x128x128, .f32⟩
  | .hbm, ⟨2, _⟩ => ⟨S1000x1, .f32⟩
  | .hbm, ⟨3, _⟩ => ⟨S1000x1, .i32⟩
  | .hbm, ⟨4, _⟩ => ⟨S1000x16384, .f32⟩
  | .hbm, ⟨5, _⟩ => ⟨S1x16384, .i32⟩
  | .hbm, ⟨6, _⟩ => ⟨S1000, .f32⟩
  | .hbm, ⟨7, _⟩ => ⟨S1000, .i32⟩
  | .hbm, ⟨8, _⟩ => ⟨S16384, .i32⟩
  | .local _ .vmem, ⟨0, _⟩ => ⟨S1000x21, .f32⟩
  | .local _ .vmem, ⟨1, _⟩ => ⟨S1000x16x128, .f32⟩
  | .local _ .vmem, ⟨2, _⟩ => ⟨S1000x16x128, .f32⟩
  | .local _ .vmem, ⟨3, _⟩ => ⟨S1000x1, .f32⟩
  | .local _ .vmem, ⟨4, _⟩ => ⟨S1000x1, .i32⟩
  | .local _ .vmem, ⟨5, _⟩ => ⟨S1000x2048, .f32⟩
  | .local _ .vmem, ⟨6, _⟩ => ⟨S1000x2048, .f32⟩
  | .local _ .vmem, ⟨7, _⟩ => ⟨S1x2048, .i32⟩
  | .local _ .vmem, ⟨8, _⟩ => ⟨S1x2048, .i32⟩
  | _, _ => ⟨S1000x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1000x21 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1000x21 : Shape := ⟨2, ![1000, 21]⟩
abbrev S1000x128x128 : Shape := ⟨3, ![1000, 128, 128]⟩
abbrev S_ : Shape := ⟨0, ![]⟩
abbrev S1000 : Shape := ⟨1, ![1000]⟩
abbrev S1000x1 : Shape := ⟨2, ![1000, 1]⟩
abbrev S1000x16384 : Shape := ⟨2, ![1000, 16384]⟩
abbrev S16384 : Shape := ⟨1, ![16384]⟩
abbrev S1x16384 : Shape := ⟨2, ![1, 16384]⟩

abbrev nBuf : Space → Nat
  | .hbm => 61
  | .vmem => 0
  | .smem => 0
  | _ => 0

abbrev bufTy : (tb : Table) → Fin (tcTables nBuf tb) → BufTy
  | .hbm, ⟨0, _⟩ => ⟨S1000x21, .f32⟩
  | .hbm, ⟨1, _⟩ => ⟨S1000x128x128, .f32⟩
  | .hbm, ⟨2, _⟩ => ⟨S_, .f32⟩
  | .hbm, ⟨3, _⟩ => ⟨S1000, .f32⟩
  | .hbm, ⟨4, _⟩ => ⟨S_, .f32⟩
  | .hbm, ⟨5, _⟩ => ⟨S1000, .f32⟩
  | .hbm, ⟨6, _⟩ => ⟨S1000, .f32⟩
  | .hbm, ⟨7, _⟩ => ⟨S1000x1, .f32⟩
  | .hbm, ⟨8, _⟩ => ⟨S1000x21, .f32⟩
  | .hbm, ⟨9, _⟩ => ⟨S1000x21, .f32⟩
  | .hbm, ⟨10, _⟩ => ⟨S1000x21, .f32⟩
  | .hbm, ⟨11, _⟩ => ⟨S_, .f32⟩
  | .hbm, ⟨12, _⟩ => ⟨S1000, .f32⟩
  | .hbm, ⟨13, _⟩ => ⟨S1000x1, .f32⟩
  | .hbm, ⟨14, _⟩ => ⟨S1000x21, .f32⟩
  | .hbm, ⟨15, _⟩ => ⟨S1000x21, .f32⟩
  | .hbm, ⟨16, _⟩ => ⟨S_, .f32⟩
  | .hbm, ⟨17, _⟩ => ⟨S1000, .f32⟩
  | .hbm, ⟨18, _⟩ => ⟨S1000x21, .i32⟩
  | .hbm, ⟨19, _⟩ => ⟨S_, .f32⟩
  | .hbm, ⟨20, _⟩ => ⟨S_, .i32⟩
  | .hbm, ⟨21, _⟩ => ⟨S1000, .f32⟩
  | .hbm, ⟨22, _⟩ => ⟨S1000, .i32⟩
  | .hbm, ⟨23, _⟩ => ⟨S_, .i32⟩
  | .hbm, ⟨24, _⟩ => ⟨S1000, .i32⟩
  | .hbm, ⟨25, _⟩ => ⟨S1000, .i1⟩
  | .hbm, ⟨26, _⟩ => ⟨S_, .f32⟩
  | .hbm, ⟨27, _⟩ => ⟨S1000, .f32⟩
  | .hbm, ⟨28, _⟩ => ⟨S1000, .i1⟩
  | .hbm, ⟨29, _⟩ => ⟨S1000, .i1⟩
  | .hbm, ⟨30, _⟩ => ⟨S1000, .f32⟩
  | .hbm, ⟨31, _⟩ => ⟨S1000, .f32⟩
  | .hbm, ⟨32, _⟩ => ⟨S1000x16384, .f32⟩
  | .hbm, ⟨33, _⟩ => ⟨S1000x1, .i1⟩
  | .hbm, ⟨34, _⟩ => ⟨S_, .f32⟩
  | .hbm, ⟨35, _⟩ => ⟨S_, .f32⟩
  | .hbm, ⟨36, _⟩ => ⟨S1000x16384, .i1⟩
  | .hbm, ⟨37, _⟩ => ⟨S1000x16384, .f32⟩
  | .hbm, ⟨38, _⟩ => ⟨S1000x16384, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S1x16384, .f32⟩
  | .hbm, ⟨45, _⟩ => ⟨S1000x16384, .f32⟩
  | .hbm, ⟨46, _⟩ => ⟨S1000x16384, .f32⟩
  | .hbm, ⟨47, _⟩ => ⟨S1000x16384, .f32⟩
  | .hbm, ⟨48, _⟩ => ⟨S_, .f32⟩
  | .hbm, ⟨49, _⟩ => ⟨S16384, .f32⟩
  | .hbm, ⟨50, _⟩ => ⟨S1x16384, .f32⟩
  | .hbm, ⟨51, _⟩ => ⟨S1000x16384, .f32⟩
  | .hbm, ⟨52, _⟩ => ⟨S1000x16384, .f32⟩
  | .hbm, ⟨53, _⟩ => ⟨S1000x16384, .i32⟩
  | .hbm, ⟨54, _⟩ => ⟨S_, .f32⟩
  | .hbm, ⟨55, _⟩ => ⟨S_, .i32⟩
  | .hbm, ⟨56, _⟩ => ⟨S16384, .f32⟩
  | .hbm, ⟨57, _⟩ => ⟨S16384, .i32⟩
  | .hbm, ⟨58, _⟩ => ⟨S1000x1, .f32⟩
  | .hbm, ⟨59, _⟩ => ⟨S1000x16384, .f32⟩
  | .hbm, ⟨60, _⟩ => ⟨S1000x16384, .f32⟩
  | _, _ => ⟨S1000x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call2_v0 : Ref sig .tc := ⟨.hbm, 53, rfl⟩
abbrev main_call2_cst : Ref sig .tc := ⟨.hbm, 54, rfl⟩
abbrev main_call2_c : Ref sig .tc := ⟨.hbm, 55, rfl⟩
abbrev main_call2_v1_0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Proof.Body.lean ====
/-
  The kernel body as a triple, once per branch of its one `pl.when`: at the first grid step it computes the class
  scores of the whole logits block and stores them, at the others it reads the scores stored then. Both cases end with
  every staging buffer named.
-/
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first step. -/
theorem run_first (c : Dev nD) (i : grid0.Coords) (arg1 : Memref sig .tc .vmem S1000x21 .f32) (harg1 : arg1.IsWhole) (arg2 : Memref sig .tc .vmem S1000x16x128 .f32) (harg2 : arg2.IsWhole) (arg3 : Memref sig .tc .vmem S1000x1 .f32) (harg3 : arg3.IsWhole) (arg4 : Memref sig .tc .vmem S1000x1 .i32) (harg4 : arg4.IsWhole) (arg5 : Memref sig .tc .vmem S1000x2048 .f32) (harg5 : arg5.IsWhole) (arg6 : Memref sig .tc .vmem S1x2048 .i32) (harg6 : arg6.IsWhole) (hc0 : k0_cond1 i = 1#1)
    (x0 : Vec F S1000x21 .f32) (x1 : Vec F S1000x16x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (k0_pay4 x0) ∗ owns (c : Thread nD τ) arg4 fullShare (k0_pay3 x0) ∗ owns (c : Thread nD τ) arg5 fullShare (k0_pay7 (k0_pay4 x0) x1) ∗ owns (c : Thread nD τ) arg6 fullShare (k0_pay8 (k0_pay4 x0) x1)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    unfold run_first.sl.H2_1; rw [View.read_writes_full, View.readAt_full, harg1.read_unread]
  isplitl [H3]
  · iexists _; isplitr; swap; · iexact H3
    ipureintro
    rw [View.read_writes_full, View.readAt_full, harg1.read_unread]
  isplitl [H4]
  · iexists _; isplitr; swap; · iexact H4
    ipureintro
    unfold run_first.sl.v3 run_first.sl.H2_1; rw [View.read_writes_full, View.readCov_full, View.readAt_full, View.readAt_full, harg1.read_unread, harg2.read_unread]
  iexists _; isplitr; swap; · iexact H5
  ipureintro
  unfold run_first.sl.r run_first.sl.v3 run_first.sl.H2_1; rw [View.read_writes_full, View.readCov_full, View.readAt_full, View.readAt_full, harg1.read_unread, harg2.read_unread]

set_option maxHeartbeats 2000000 in
/-- The body at a later step. -/
theorem run_later (c : Dev nD) (i : grid0.Coords) (arg1 : Memref sig .tc .vmem S1000x21 .f32) (harg1 : arg1.IsWhole) (arg2 : Memref sig .tc .vmem S1000x16x128 .f32) (harg2 : arg2.IsWhole) (arg3 : Memref sig .tc .vmem S1000x1 .f32) (harg3 : arg3.IsWhole) (arg4 : Memref sig .tc .vmem S1000x1 .i32) (harg4 : arg4.IsWhole) (arg5 : Memref sig .tc .vmem S1000x2048 .f32) (harg5 : arg5.IsWhole) (arg6 : Memref sig .tc .vmem S1x2048 .i32) (harg6 : arg6.IsWhole) (hc0 : ¬k0_cond1 i = 1#1)
    (x0 : Vec F S1000x21 .f32) (x1 : Vec F S1000x16x128 .f32) (x2 : Vec F S1000x1 .f32) (x3 : Vec F S1000x1 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay7 x2 x1) ∗ owns (c : Thread nD τ) arg6 fullShare (k0_pay8 x2 x1)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1
  obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact harg3.read_unread _
  isplitl [H3]
  · iexists _; isplitr; swap; · iexact H3
    ipureintro
    exact harg4.read_unread _
  isplitl [H4]
  · iexists _; isplitr; swap; · iexact H4
    ipureintro
    rw [View.read_writes_full, View.readAt_full, View.readAt_full, harg3.read_unread, harg2.read_unread]
  iexists _; isplitr; swap; · iexact H5
  ipureintro
  unfold run_later.sl.r; rw [View.read_writes_full, View.readAt_full, View.readAt_full, harg3.read_unread, harg2.read_unread]

end Cert.KernelIdeal.Hand

end
-- ==== Proof.Run.lean ====
/-
  The run of the whole kernel: the proof data of its pipeline (what each staging buffer holds after each grid step), the
  body obligation from the two body triples, and the launch. The class outputs (windows 2 and 3) are stored at the first
  step only and written back at the last, so what they hold is carried through the seven steps between.
-/
module

public import proofs.«01_k».proof.Proof.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch condition in closed form: it holds at the first step only. -/
theorem cond_iff : ∀ t : Fin cfg0.N, k0_cond1 (grid0.coords t) = 1#1 ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val % 8 = 0)

/-- The whole logits array, as the body loads it. -/
def logits (c : Dev nD) : Vec F S1000x21 .f32 := m ((c : Thread nD τ).loc main_arg0)

/-- The one block of window 0 is the whole logits array. -/
theorem iblk0 (c : Dev nD) (t : Fin cfg0.N) : iblk m c 0 t = logits m c := by
  funext y
  unfold iblk logits
  rw [View.read_apply]
  show V m c main_arg0 _ = m ((c : Thread nD τ).loc main_arg0) _
  unfold V
  congr 1
  funext a
  apply Fin.ext
  match a with
  | ⟨0, _⟩ => show win0_0.index t 0 * win0_0.size 0 + 1 * (y 0).val = (y 0).val; have h : win0_0.index t 0 = 0 := rfl; rw [h]; omega
  | ⟨1, _⟩ => show win0_0.index t 1 * win0_0.size 1 + 1 * (y 1).val = (y 1).val; have h : win0_0.index t 1 = 0 := rfl; rw [h]; omega

/-- The proof data: windows 2 and 3 hold the scores and the classes of the whole logits block after every step;
    windows 4 and 5 the step's block of the weighted masks and of the winning query per pixel. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (logits m c)
    | ⟨3, _⟩ => k0_pay3 (logits m c)
    | ⟨4, _⟩ => k0_pay7 (k0_pay4 (logits m c)) (iblk m c 1 t)
    | ⟨5, _⟩ => k0_pay8 (k0_pay4 (logits m c)) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay4 (logits m c) := by dsimp only [dats]
theorem after3 (c : Dev nD) (t : Fin cfg0.N) : (dats m 0 c).after 3 t = k0_pay3 (logits m c) := by dsimp only [dats]
theorem after4 (c : Dev nD) (t : Fin cfg0.N) : (dats m 0 c).after 4 t = k0_pay7 (k0_pay4 (logits m c)) (iblk m c 1 t) := by dsimp only [dats]
theorem after5 (c : Dev nD) (t : Fin cfg0.N) : (dats m 0 c).after 5 t = k0_pay8 (k0_pay4 (logits m c)) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- After the first step the scores' buffer is no longer fresh. -/
theorem fresh2 : ∀ t : Fin cfg0.N, t.val ≠ 0 → cfg0.fresh 2 t.val = false := by decide +kernel
theorem fresh3 : ∀ t : Fin cfg0.N, t.val ≠ 0 → cfg0.fresh 3 t.val = false := by decide +kernel

/-- What the body finds in the scores' buffer at a later step: the scores. -/
theorem before2 (c : Dev nD) (t : Fin cfg0.N) (ht : t.val ≠ 0) (d) : (dats m 0 c).before 2 t d = k0_pay4 (logits m c) := by
  rw [(dats m 0 c).before_out_traj 2 rfl (fun _ _ => rfl) (fun t _ _ _ => by rw [after2, after2]) t.val t rfl d, fresh2 t ht, after2]
  rfl
theorem before3 (c : Dev nD) (t : Fin cfg0.N) (ht : t.val ≠ 0) (d) : (dats m 0 c).before 3 t d = k0_pay3 (logits m c) := by
  rw [(dats m 0 c).before_out_traj 3 rfl (fun _ _ => rfl) (fun t _ _ _ => by rw [after3, after3]) t.val t rfl d, fresh3 t ht, after3]
  rfl

/-! ## The body obligation -/

abbrev ms0 (t : Fin cfg0.N) : Memref sig .tc .vmem S1000x21 .f32 := win0_0.stage (cfg0.slots t 0)
abbrev ms1 (t : Fin cfg0.N) : Memref sig .tc .vmem S1000x16x128 .f32 := win0_1.stage (cfg0.slots t 1)
abbrev ms2 (t : Fin cfg0.N) : Memref sig .tc .vmem S1000x1 .f32 := win0_2.stage (cfg0.slots t 2)
abbrev ms3 (t : Fin cfg0.N) : Memref sig .tc .vmem S1000x1 .i32 := win0_3.stage (cfg0.slots t 3)
abbrev ms4 (t : Fin cfg0.N) : Memref sig .tc .vmem S1000x2048 .f32 := win0_4.stage (cfg0.slots t 4)
abbrev ms5 (t : Fin cfg0.N) : Memref sig .tc .vmem S1x2048 .i32 := win0_5.stage (cfg0.slots t 5)

/-- Windows 2 and 3 are idle exactly after the first step. -/
theorem idle2 (t : Fin cfg0.N) : cfg0.idle 2 (grid0.coords t) = !decide (t.val % 8 = 0) := by
  show (!(k0_cond1 (grid0.coords t) == 1#1)) = _
  by_cases h : t.val % 8 = 0
  · rw [(cond_iff t).mpr h]; simp [h]
  · have := fun e => h ((cond_iff t).mp e)
    simp [h]; exact this
theorem idle3 (t : Fin cfg0.N) : cfg0.idle 3 (grid0.coords t) = !decide (t.val % 8 = 0) := idle2 t

/-- What the body is called with at step `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns, window by window. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A buffer that holds what the step is to leave is left as the obligation asks, at an idle step (`before` agrees
    with `after`) as at another. -/
theorem leaves2 (c : Dev nD) (t : Fin cfg0.N) :
    owns (c : Thread nD τ) (ms2 t) fullShare (k0_pay4 (logits m c)) ⊢ ((dats m 0 c).leavesExact 2 t : sProp 𝕄) := by
  unfold Dat.leavesExact
  by_cases h : t.val % 8 = 0
  · rw [show cfg0.idle 2 (cfg0.grid.coords t) = false from (idle2 t).trans (by simp [h])]
    dsimp only; rw [after2]
  · rw [show cfg0.idle 2 (cfg0.grid.coords t) = true from (idle2 t).trans (by simp [h])]
    have ht : t.val ≠ 0 := by omega
    cases hf : (cfg0.win 2).flush t
    · dsimp only
      iintro H; iexists (fun _ => Classical.choice inferInstance); rw [before2 m c t ht]; iexact H
    · dsimp only; rw [after2]
theorem leaves3 (c : Dev nD) (t : Fin cfg0.N) :
    owns (c : Thread nD τ) (ms3 t) fullShare (k0_pay3 (logits m c)) ⊢ ((dats m 0 c).leavesExact 3 t : sProp 𝕄) := by
  unfold Dat.leavesExact
  by_cases h : t.val % 8 = 0
  · rw [show cfg0.idle 3 (cfg0.grid.coords t) = false from (idle3 t).trans (by simp [h])]
    dsimp only; rw [after3]
  · rw [show cfg0.idle 3 (cfg0.grid.coords t) = true from (idle3 t).trans (by simp [h])]
    have ht : t.val ≠ 0 := by omega
    cases hf : (cfg0.win 3).flush t
    · dsimp only
      iintro H; iexists (fun _ => Classical.choice inferInstance); rw [before3 m c t ht]; iexact H
    · dsimp only; rw [after3]

set_option maxHeartbeats 1600000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 4 t = owns (c : Thread nD τ) (ms4 t) fullShare ((dats m 0 c).after 4 t) from rfl,
    show (dats m 0 c).leavesExact 5 t = owns (c : Thread nD τ) (ms5 t) fullShare ((dats m 0 c).after 5 t) from rfl,
    after0, after1, after4, after5, iblk0]
  by_cases h0 : t.val % 8 = 0
  · iintro ⟨HΦ, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ ((cond_iff t).mpr h0) (logits m c) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iapply (leaves2 m c t); iexact H2
    isplitl [H3]; · iapply (leaves3 m c t); iexact H3
    isplitl [H4]; · iexact H4
    iexact H5
  · have ht : t.val ≠ 0 := by omega
    simp only [before2 m c t ht, before3 m c t ht]
    iintro ⟨HΦ, Ho, ⟨%d0, H0⟩, ⟨%d1, H1⟩, ⟨%d2, H2⟩, ⟨%d3, H3⟩, ⟨%d4, H4⟩, ⟨%d5, H5⟩⟩
    iapply ((run_later c (grid0.coords t) _ _ _ _ _ _ _ _ _ _ _ _ (fun h => h0 ((cond_iff t).mp h)) (logits m c) (iblk m c 1 t) (k0_pay4 (logits m c)) (k0_pay3 (logits m c))) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iapply (leaves2 m c t); iexact H2
    isplitl [H3]; · iapply (leaves3 m c t); iexact H3
    isplitl [H4]; · iexact H4
    iexact H5

/-- The body table's row at step `t` is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 1600000 in
/-- Every run of the kernel ends with every array of the pipeline at what the write-backs left, the host lines after it
    run on those, and every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.Same.lean ====
/- The kernel's frame over the machine's words, from the ideal program's.

   No rewrite applies to this kernel, so the kernel's program and the ideal program are the same text printed
   twice, under two names. `Proof/Run.lean` proves the frame of the second at any float instance; here the two
   texts are shown equal at the machine's instance, and the frame is read across. -/
module

public import proofs.«01_k».proof.Defs
public import proofs.«01_k».proof.Proof.Gen.Kernel
public import proofs.«01_k».proof.Proof.Run

@[expose] public section

namespace Cert.Kernel.Hand

open Idealize Idealize.ShloMosaic Idealize.ShloMosaic.TcCoe
open Idealize.SL.Sem

/-- The two programs' body tables are equal: the one label runs the same function on the same buffers. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) =>
    show Cert.Kernel.cc0__body _ _ _ _ _ _ _ _ _ _ _ _ _ = Cert.KernelIdeal.cc0__body _ _ _ _ _ _ _ _ _ _ _ _ _
    rfl
  | ⟨n + 1, h⟩, _ => exact absurd h (by omega)

/-- So are their tables with the pipeline's own labels added, which both add alike. -/
theorem defs_eq : Cert.Kernel.defs (F := Bits) = Cert.KernelIdeal.defs (F := Bits) :=
  congrArg (Pipeline.defs (Cert.KernelIdeal.pcfgs (F := Bits))) bodies_eq

/-- And so are their `@main`s: the pallas_call, then three reshapes. -/
theorem main_eq : Cert.Kernel.main (F := Bits) = Cert.KernelIdeal.main (F := Bits) := rfl

/-- The kernel's frame: every weakly-fair run terminates race-free, its arguments unchanged and its semaphores at zero. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  exact Cert.KernelIdeal.Hand.frame (F := Bits) m g

end Cert.Kernel.Hand

end
-- ==== Proof.RefRun.lean ====
/-
  The run of the REFERENCE program (../../ReferenceIdeal.lean, a straight line of host operations, no kernel): from any
  memory whose counters are zero it terminates, its two arguments are unchanged, every counter reads zero, and its four
  results are `mscore`, `cls`, `weighted` and `mid` of the arguments (below, one definition per named value of
  ../../reference.py).
-/
module

public import proofs.«01_k».proof.Proof.Gen.ReferenceIdeal
public import Idealize.ShloMosaic.Lib.StableHlo.Run
public import Idealize.ShloMosaic.Lib.Quiescent
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The reference's values -/

/-- Each row's greatest logit. -/
def rowMax (x : FVec F S1000x21 .f32) : FVec F S1000 .f32 :=
  maximumf (broadcastInDim S1000 ![] bcast_S_S1000 (constant S_ .f32 0xFF800000#32))
    (Host.reduce FloatOps.maximumf x (constant S_ .f32 0xFF800000#32) reducesTo_S1000x21_S1000_d1 h_S_)

/-- The unnormalised softmax of the logits. -/
def rowExp (x : FVec F S1000x21 .f32) : FVec F S1000x21 .f32 :=
  Host.exp (subf x (broadcastInDim S1000x21 ![0, 1] bcast_S1000x1_S1000x21_0_1
    (broadcastInDim S1000x1 ![0] bcast_S1000_S1000x1_0 (rowMax x))))

/-- The class probabilities. -/
def probs (x : FVec F S1000x21 .f32) : FVec F S1000x21 .f32 :=
  Host.divf (rowExp x) (broadcastInDim S1000x21 ![0, 1] bcast_S1000x1_S1000x21_0_1
    (broadcastInDim S1000x1 ![0] bcast_S1000_S1000x1_0
      (Host.reduceAdd (rowExp x) (constant S_ .f32 0x00000000#32) reducesTo_S1000x21_S1000_d1 h_S_)))

/-- Each row's score: its greatest probability. -/
def score (x : FVec F S1000x21 .f32) : FVec F S1000 .f32 :=
  Host.reduce FloatOps.maximumf (probs x) (constant S_ .f32 0xFF800000#32) reducesTo_S1000x21_S1000_d1 h_S_

/-- Each row's class: the first greatest probability's index. -/
def cls (x : FVec F S1000x21 .f32) : IVec S1000 32 :=
  fun j => (Host.argReduce reducer_argmax_f32_i32 (probs x) (iotaInDim S1000x21 32 1) (constant S_ .f32 0xFF800000#32)
    (constantI S_ 32 0#32) reducesTo_S1000x21_S1000_d1 h_S_ j).2

/-- Which rows are kept: a class other than 20 and a score above the threshold. -/
def keep (x : FVec F S1000x21 .f32) : IVec S1000 1 :=
  andi (cmpi .ne (cls x) (broadcastInDim S1000 ![] bcast_S_S1000 (constantI S_ 32 20#32)))
    (cmpf .ogt (score x) (broadcastInDim S1000 ![] bcast_S_S1000 (constant S_ .f32 0x3DCCCCCD#32)))

/-- The scores, zero on the rows not kept. -/
def mscore (x : FVec F S1000x21 .f32) : FVec F S1000 .f32 := mulf (score x) (uitofp .f32 (keep x))

/-- The mask logits, the rows not kept replaced by a constant. -/
def masked (x : FVec F S1000x21 .f32) (y : FVec F S1000x128x128 .f32) : FVec F S1000x16384 .f32 :=
  select (broadcastInDim S1000x16384 ![0, 1] bcast_S1000x1_S1000x16384_0_1
      (broadcastInDim S1000x1 ![0] bcast_S1000_S1000x1_0 (keep x)))
    (shapeCast S1000x16384 y shapeCasts_S1000x128x128_S1000x16384)
    (broadcastInDim S1000x16384 ![] bcast_S_S1000x16384 (constant S_ .f32 0xC7C34F80#32))

/-- Each pixel's greatest masked logit over the rows. -/
def colMax (v : FVec F S1000x16384 .f32) : FVec F S16384 .f32 :=
  maximumf (broadcastInDim S16384 ![] bcast_S_S16384 (constant S_ .f32 0xFF800000#32))
    (Host.reduce FloatOps.maximumf v (constant S_ .f32 0xFF800000#32) reducesTo_S1000x16384_S16384_d0 h_S_)

/-- The unnormalised softmax over the rows. -/
def colExp (v : FVec F S1000x16384 .f32) : FVec F S1000x16384 .f32 :=
  Host.exp (subf v (broadcastInDim S1000x16384 ![0, 1] bcast_S1x16384_S1000x16384_0_1
    (broadcastInDim S1x16384 ![1] bcast_S16384_S1x16384_1 (colMax v))))

/-- The softmax over the rows. -/
def soft (x : FVec F S1000x21 .f32) (y : FVec F S1000x128x128 .f32) : FVec F S1000x16384 .f32 :=
  Host.divf (colExp (masked x y)) (broadcastInDim S1000x16384 ![0, 1] bcast_S1x16384_S1000x16384_0_1
    (broadcastInDim S1x16384 ![1] bcast_S16384_S1x16384_1
      (Host.reduceAdd (colExp (masked x y)) (constant S_ .f32 0x00000000#32) reducesTo_S1000x16384_S16384_d0 h_S_)))

/-- Each pixel's row: the first greatest softmax's index. -/
def mid (x : FVec F S1000x21 .f32) (y : FVec F S1000x128x128 .f32) : IVec S16384 32 :=
  fun j => (Host.argReduce reducer_argmax_f32_i32 (soft x y) (iotaInDim S1000x16384 32 0) (constant S_ .f32 0xFF800000#32)
    (constantI S_ 32 0#32) reducesTo_S1000x16384_S16384_d0 h_S_ j).2

/-- The softmax weighted by the masked scores. -/
def weighted (x : FVec F S1000x21 .f32) (y : FVec F S1000x128x128 .f32) : FVec F S1000x16384 .f32 :=
  mulf (soft x y) (broadcastInDim S1000x16384 ![0, 1] bcast_S1000x1_S1000x16384_0_1
    (broadcastInDim S1000x1 ![0] bcast_S1000_S1000x1_0 (mscore x)))

/-! ## The run -/

/-- @main's operations, in order. -/
abbrev ops : List (HloOp τ sig (Elt F)) :=
  [ nullary main_cst (constant S_ .f32 0xFF800000#32),
    binary main_arg0 main_cst main_v0 ((fun x v => Host.reduce FloatOps.maximumf x v reducesTo_S1000x21_S1000_d1 h_S_)),
    nullary main_cst_0 (constant S_ .f32 0xFF800000#32),
    unary main_cst_0 main_v1 (broadcastInDim S1000 ![] bcast_S_S1000),
    binary main_v1 main_v0 main_v2 (maximumf),
    unary main_v2 main_v3 (broadcastInDim S1000x1 ![0] bcast_S1000_S1000x1_0),
    unary main_v3 main_v4 (broadcastInDim S1000x21 ![0, 1] bcast_S1000x1_S1000x21_0_1),
    binary main_arg0 main_v4 main_v5 (subf),
    unary main_v5 main_v6 (Host.exp),
    nullary main_cst_1 (constant S_ .f32 0x00000000#32),
    binary main_v6 main_cst_1 main_v7 ((fun x v => Host.reduceAdd x v reducesTo_S1000x21_S1000_d1 h_S_)),
    unary main_v7 main_v8 (broadcastInDim S1000x1 ![0] bcast_S1000_S1000x1_0),
    unary main_v8 main_v9 (broadcastInDim S1000x21 ![0, 1] bcast_S1000x1_S1000x21_0_1),
    binary main_v6 main_v9 main_v10 (Host.divf),
    nullary main_cst_2 (constant S_ .f32 0xFF800000#32),
    binary main_v10 main_cst_2 main_v11 ((fun x v => Host.reduce FloatOps.maximumf x v reducesTo_S1000x21_S1000_d1 h_S_)),
    TRef.nullary main_call0.v0 (iotaInDim S1000x21 32 1),
    TRef.nullary main_call0.cst (constant S_ .f32 0xFF800000#32),
    TRef.nullary main_call0.c (constantI S_ 32 0#32),
    TRef.quaternary (.of main_v10 : TRef sig ⟨S1000x21, .f32⟩) main_call0.v0 main_call0.cst main_call0.c main_call0.v1_0 (fun x y u v j => (Host.argReduce reducer_argmax_f32_i32 x y u v reducesTo_S1000x21_S1000_d1 h_S_ j).1),
    TRef.quaternary (.of main_v10 : TRef sig ⟨S1000x21, .f32⟩) main_call0.v0 main_call0.cst main_call0.c main_call0.v1_1 (fun x y u v j => (Host.argReduce reducer_argmax_f32_i32 x y u v reducesTo_S1000x21_S1000_d1 h_S_ j).2),
    nullary main_c (constantI S_ 32 20#32),
    unary main_c main_v13 (broadcastInDim S1000 ![] bcast_S_S1000),
    binary main_v12 main_v13 main_v14 (cmpi .ne),
    nullary main_cst_3 (constant S_ .f32 0x3DCCCCCD#32),
    unary main_cst_3 main_v15 (broadcastInDim S1000 ![] bcast_S_S1000),
    binary main_v11 main_v15 main_v16 (cmpf .ogt),
    binary main_v14 main_v16 main_v17 (andi),
    unary main_v17 main_v18 (uitofp .f32),
    binary main_v11 main_v18 main_v19 (mulf),
    reshape main_arg1 main_v20 (rfl : (.f32 : EltTy) = .f32) shapeCasts_S1000x128x128_S1000x16384,
    unary main_v17 main_v21 (broadcastInDim S1000x1 ![0] bcast_S1000_S1000x1_0),
    nullary main_cst_4 (constant S_ .f32 0xC7C34F80#32),
    TRef.unary (.of main_cst_4 : TRef sig ⟨S_, .f32⟩) main_call1.v0 id,
    TRef.unary (.of main_v21 : TRef sig ⟨S1000x1, .i1⟩) main_call1.v1 (broadcastInDim S1000x16384 ![0, 1] bcast_S1000x1_S1000x16384_0_1),
    TRef.unary main_call1.v0 main_call1.v2 (broadcastInDim S1000x16384 ![] bcast_S_S1000x16384),
    TRef.ternary main_call1.v1 (.of main_v20 : TRef sig ⟨S1000x16384, .f32⟩) main_call1.v2 main_call1.v3 select,
    nullary main_cst_5 (constant S_ .f32 0xFF800000#32),
    binary main_v22 main_cst_5 main_v23 ((fun x v => Host.reduce FloatOps.maximumf x v reducesTo_S1000x16384_S16384_d0 h_S_)),
    nullary main_cst_6 (constant S_ .f32 0xFF800000#32),
    unary main_cst_6 main_v24 (broadcastInDim S16384 ![] bcast_S_S16384),
    binary main_v24 main_v23 main_v25 (maximumf),
    unary main_v25 main_v26 (broadcastInDim S1x16384 ![1] bcast_S16384_S1x16384_1),
    unary main_v26 main_v27 (broadcastInDim S1000x16384 ![0, 1] bcast_S1x16384_S1000x16384_0_1),
    binary main_v22 main_v27 main_v28 (subf),
    unary main_v28 main_v29 (Host.exp),
    nullary main_cst_7 (constant S_ .f32 0x00000000#32),
    binary main_v29 main_cst_7 main_v30 ((fun x v => Host.reduceAdd x v reducesTo_S1000x16384_S16384_d0 h_S_)),
    unary main_v30 main_v31 (broadcastInDim S1x16384 ![1] bcast_S16384_S1x16384_1),
    unary main_v31 main_v32 (broadcastInDim S1000x16384 ![0, 1] bcast_S1x16384_S1000x16384_0_1),
    binary main_v29 main_v32 main_v33 (Host.divf),
    TRef.nullary main_call2.v0 (iotaInDim S1000x16384 32 0),
    TRef.nullary main_call2.cst (constant S_ .f32 0xFF800000#32),
    TRef.nullary main_call2.c (constantI S_ 32 0#32),
    TRef.quaternary (.of main_v33 : TRef sig ⟨S1000x16384, .f32⟩) main_call2.v0 main_call2.cst main_call2.c main_call2.v1_0 (fun x y u v j => (Host.argReduce reducer_argmax_f32_i32 x y u v reducesTo_S1000x16384_S16384_d0 h_S_ j).1),
    TRef.quaternary (.of main_v33 : TRef sig ⟨S1000x16384, .f32⟩) main_call2.v0 main_call2.cst main_call2.c main_call2.v1_1 (fun x y u v j => (Host.argReduce reducer_argmax_f32_i32 x y u v reducesTo_S1000x16384_S16384_d0 h_S_ j).2),
    unary main_v19 main_v35 (broadcastInDim S1000x1 ![0] bcast_S1000_S1000x1_0),
    unary main_v35 main_v36 (broadcastInDim S1000x16384 ![0, 1] bcast_S1000x1_S1000x16384_0_1),
    binary main_v33 main_v36 main_v37 (mulf) ]

/-- @main is that straight line. -/
theorem main_eq (c : Dev nD) : main (F := F) c = seq ops := by
  simp only [main, fn_argmax.body, fn_where.body, fn_argmax_0.body, seq, bind_assoc, pure_bind]
  rfl

/-- The reference has no scoped buffer. -/
theorem scopedRefs_eq : (Finset.univ.filter fun b : Ref sig .tc => b.isScoped) = ∅ := by decide
/-- Nor a scoped semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., binary_bufs_sub ..,
    nullary_bufs_sub .., binary_bufs_sub .., nullary_bufs_sub .., nullary_bufs_sub .., nullary_bufs_sub .., quaternary_bufs_sub .., quaternary_bufs_sub
    .., nullary_bufs_sub .., unary_bufs_sub .., binary_bufs_sub .., nullary_bufs_sub .., unary_bufs_sub .., binary_bufs_sub .., binary_bufs_sub ..,
    unary_bufs_sub .., binary_bufs_sub .., reshape_bufs_sub .., unary_bufs_sub .., nullary_bufs_sub .., unary_bufs_sub .., unary_bufs_sub ..,
    unary_bufs_sub .., ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub .., unary_bufs_sub ..,
    unary_bufs_sub .., binary_bufs_sub .., nullary_bufs_sub .., nullary_bufs_sub .., nullary_bufs_sub .., quaternary_bufs_sub .., quaternary_bufs_sub ..,
    unary_bufs_sub .., unary_bufs_sub .., binary_bufs_sub ..⟩

/-- What the operations leave at each result: the masked scores. -/
theorem v19_eq (V : Valuation τ sig (Elt F)) :
    after ops V (main_v19 : DevRef τ sig) = mscore (V (main_arg0 : DevRef τ sig)) := by
  after_results_simp
  rfl

/-- The classes. -/
theorem v12_eq (V : Valuation τ sig (Elt F)) :
    after ops V (main_v12 : DevRef τ sig) = cls (V (main_arg0 : DevRef τ sig)) := by
  after_results_simp
  rfl

/-- The weighted softmax. -/
theorem v37_eq (V : Valuation τ sig (Elt F)) :
    after ops V (main_v37 : DevRef τ sig) = weighted (V (main_arg0 : DevRef τ sig)) (V (main_arg1 : DevRef τ sig)) := by
  after_results_simp
  rfl

/-- The winning queries. -/
theorem v34_eq (V : Valuation τ sig (Elt F)) :
    after ops V (main_v34 : DevRef τ sig) = mid (V (main_arg0 : DevRef τ sig)) (V (main_arg1 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- Nor the second argument. -/
theorem arg1_eq (V : Valuation τ sig (Elt F)) :
    after ops V (main_arg1 : DevRef τ sig) = V (main_arg1 : DevRef τ sig) := by
  after_results_simp

/-- The whole run: the four results, the two arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v19) = mscore (m ((c.tc : Thread nD τ).loc main_arg0))
        ∧ r.2.mem ((c.tc : Thread nD τ).loc main_v12) = cls (m ((c.tc : Thread nD τ).loc main_arg0))
        ∧ r.2.mem ((c.tc : Thread nD τ).loc main_v37)
            = weighted (m ((c.tc : Thread nD τ).loc main_arg0)) (m ((c.tc : Thread nD τ).loc main_arg1))
        ∧ r.2.mem ((c.tc : Thread nD τ).loc main_v34)
            = mid (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v19).trans (v19_eq _), (h c main_v12).trans (v12_eq _),
      (h c main_v37).trans (v37_eq _), (h c main_v34).trans (v34_eq _),
      (h c main_arg0).trans (arg0_eq _), (h c main_arg1).trans (arg1_eq _)⟩)
    (run_seq scopedRefs_eq scopedSems_eq defs main (fun _ => ops) main_eq (fun _ => ops_sub) m ρ)

/-- The frame: the arguments unchanged and every counter zero (the program declares none). -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h c).2.2.2.2.1, (h c).2.2.2.2.2⟩, sem_eq_zero_of_no_sems (by decide) _⟩)
    (run_main m ρ)

end Cert.ReferenceIdeal.Hand

end
-- ==== Proof.First.lean ====
/-
  The index of the first greatest value of a finite family of extended reals, and the three forms in which it is computed:
  the reference's fold over (value, index) pairs, the kernel's index reduction, and the kernel's least index among those
  whose value is the greatest.
-/
module

public import proofs.«01_k».proof.ReferenceIdeal
public import Idealize.ShloMosaic.PureOps.Reduce
public import Idealize.ShloMosaic.PureOps.Ideal.Laws
public import Idealize.ShloMosaic.Lib.Pointwise

@[expose] public section

noncomputable section

namespace Cert.Hand

open Idealize.ShloMosaic

/-- `c` is the first index at which `f` is greatest. -/
def IsFirst {n : Nat} (f : Fin n → EReal) (c : Fin n) : Prop := (∀ i, f i ≤ f c) ∧ ∀ i, f i = f c → c ≤ i

/-- The greatest value of the family (−∞ of an empty one), as a fold of `max`. -/
def greatest {n : Nat} (f : Fin n → EReal) : EReal := Finset.univ.fold max ⊥ f

/-- The greatest value is the supremum over the indices. -/
theorem greatest_eq_sup {n : Nat} (f : Fin n → EReal) : greatest f = Finset.univ.sup f := rfl

/-- No value exceeds the greatest. -/
theorem le_greatest {n : Nat} (f : Fin n → EReal) (i : Fin n) : f i ≤ greatest f := by
  rw [greatest_eq_sup]; exact Finset.le_sup (Finset.mem_univ i)

/-- Some index holds the greatest value. -/
theorem exists_greatest {n : Nat} (f : Fin n → EReal) (hn : 0 < n) : ∃ i, f i = greatest f := by
  have : (Finset.univ : Finset (Fin n)).Nonempty := ⟨⟨0, hn⟩, Finset.mem_univ _⟩
  obtain ⟨i, _, h⟩ := Finset.exists_mem_eq_sup _ this f
  exact ⟨i, by rw [greatest_eq_sup, h]⟩

/-- The first index at which the greatest value lies holds it. -/
theorem greatest_of_isFirst {n : Nat} {f : Fin n → EReal} {c : Fin n} (h : IsFirst f c) : greatest f = f c :=
  le_antisymm (by rw [greatest_eq_sup]; exact Finset.sup_le fun i _ => h.1 i) (le_greatest f c)

/-- There is a first index at which the greatest value lies. -/
theorem exists_isFirst {n : Nat} (f : Fin n → EReal) (hn : 0 < n) : ∃ c, IsFirst f c := by
  classical
  obtain ⟨i, hi⟩ := exists_greatest f hn
  have hne : (Finset.univ.filter fun i => f i = greatest f).Nonempty := ⟨i, by simp [hi]⟩
  have hm := Finset.min'_mem _ hne
  refine ⟨(Finset.univ.filter fun i => f i = greatest f).min' hne, fun k => ?_, fun k hk => Finset.min'_le _ _ ?_⟩
  · rw [(Finset.mem_filter.mp hm).2]; exact le_greatest f k
  · rw [(Finset.mem_filter.mp hm).2] at hk; simp [hk]

/-! ## The reference's fold -/

/-- Pair `p` is at least as good as `q`: a greater value, or the same value and an index no later. -/
def Better (p q : EReal × BitVec 32) : Prop := q.1 < p.1 ∨ (q.1 = p.1 ∧ p.2.toInt ≤ q.2.toInt)

/-- Every pair is as good as itself. -/
theorem Better.refl (p : EReal × BitVec 32) : Better p p := .inr ⟨rfl, le_rfl⟩

/-- Being as good as is transitive. -/
theorem Better.trans {p q r : EReal × BitVec 32} (h : Better p q) (h' : Better q r) : Better p r := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- The reference's reducer keeps the better of two pairs. -/
theorem reducer_eq (a b : EReal × BitVec 32) :
    Cert.ReferenceIdeal.reducer_argmax_f32_i32 (F := Ideal) a b
      = if b.1 < a.1 ∨ (a.1 = b.1 ∧ a.2.toInt < b.2.toInt) then a else b := by
  obtain ⟨a1, a2⟩ := a
  obtain ⟨b1, b2⟩ := b
  simp only [Cert.ReferenceIdeal.reducer_argmax_f32_i32, Ideal.cmpf_def, Ideal.cmp, IntOp.cmpi, IntOp.ori, IntOp.andi,
    Scalar.select, BitVec.slt]
  by_cases h : b1 < a1
  · have o : ∀ v : BitVec 1, 1#1 ||| v = 1#1 := by decide
    simp [h, o]
  · by_cases h' : a1 = b1
    · subst h'
      by_cases h2 : a2.toInt < b2.toInt <;> simp [h2]
    · simp [h, h']

/-- The argmax's reducer returns one of its two pairs, and that one is as good as either. -/
theorem reducer_spec (a b : EReal × BitVec 32) :
    (Cert.ReferenceIdeal.reducer_argmax_f32_i32 (F := Ideal) a b = a ∨ Cert.ReferenceIdeal.reducer_argmax_f32_i32 (F := Ideal) a b = b)
      ∧ Better (Cert.ReferenceIdeal.reducer_argmax_f32_i32 (F := Ideal) a b) a
      ∧ Better (Cert.ReferenceIdeal.reducer_argmax_f32_i32 (F := Ideal) a b) b := by
  rw [reducer_eq]
  split
  · next h => exact ⟨.inl rfl, .refl a, h.imp id fun h => ⟨h.1.symm, h.2.le⟩⟩
  · next h =>
    push Not at h
    refine ⟨.inr rfl, ?_, .refl b⟩
    rcases lt_or_eq_of_le h.1 with h1 | h1
    · exact .inl h1
    · exact .inr ⟨h1, h.2 h1⟩

/-- The fold over a list ends at one of its pairs, or at the initial one, and that pair is better than every other. -/
theorem foldl_spec (l : List (EReal × BitVec 32)) (a : EReal × BitVec 32) :
    (l.foldl (Cert.ReferenceIdeal.reducer_argmax_f32_i32 (F := Ideal)) a = a
        ∨ l.foldl (Cert.ReferenceIdeal.reducer_argmax_f32_i32 (F := Ideal)) a ∈ l)
      ∧ Better (l.foldl (Cert.ReferenceIdeal.reducer_argmax_f32_i32 (F := Ideal)) a) a
      ∧ ∀ q ∈ l, Better (l.foldl (Cert.ReferenceIdeal.reducer_argmax_f32_i32 (F := Ideal)) a) q := by
  induction l generalizing a with
  | nil => exact ⟨.inl rfl, .refl a, by simp⟩
  | cons b l ih =>
    rw [List.foldl_cons]
    obtain ⟨h1, h2, h3⟩ := ih (Cert.ReferenceIdeal.reducer_argmax_f32_i32 (F := Ideal) a b)
    obtain ⟨r1, r2, r3⟩ := reducer_spec a b
    refine ⟨?_, h2.trans r2, fun q hq => ?_⟩
    · rcases h1 with h1 | h1
      · rw [h1]
        rcases r1 with r1 | r1
        · exact .inl r1
        · exact .inr (by rw [r1]; exact List.mem_cons_self)
      · exact .inr (List.mem_cons_of_mem _ h1)
    · rcases List.mem_cons.mp hq with rfl | hq
      · exact h2.trans r3
      · exact h3 q hq

/-- A number below `2 ^ 31` is itself when read as a signed word. -/
theorem toInt_ofNat_lt {k : Nat} (h : k < 2 ^ 31) : (BitVec.ofNat 32 k).toInt = k := by
  rw [BitVec.toInt_eq_toNat_cond, BitVec.toNat_ofNat, Nat.mod_eq_of_lt (by omega), if_pos (by omega)]

/-- The reference's arg-max at a result index whose fiber `g` enumerates, the index operand holding the enumeration. -/
theorem argReduce_of_fiber {s t u : Shape} {axes : List (Fin s.rank)} {n : Nat} (hn : n ≤ 2 ^ 31) (x : FVec Ideal s .f32)
    (y : IVec s 32) (ix : FVec Ideal u .f32) (iy : IVec u 32) (h : s.ReducesTo axes t) (hu : 0 < u.numel) (j : t.Idx)
    (g : Fin n → s.Idx) (hp : ∀ i, h.drop i = j ↔ ∃ k, g k = i) (hy : ∀ k, y (g k) = BitVec.ofNat 32 k.val)
    (hix : ix (Shape.Idx.first hu) = (⊥ : EReal)) (hiy : iy (Shape.Idx.first hu) = 0#32) (c : Fin n)
    (hc : IsFirst (fun k => (x (g k) : EReal)) c) :
    (Host.argReduce (F := Ideal) Cert.ReferenceIdeal.reducer_argmax_f32_i32 x y ix iy h hu j).2 = BitVec.ofNat 32 c.val := by
  have hmem : ∀ p, p ∈ Host.argReduceFiber x y h j ↔ ∃ k, p = ((x (g k) : EReal), BitVec.ofNat 32 k.val) := by
    intro p
    simp only [Host.argReduceFiber, List.mem_map, List.mem_filter, List.mem_finRange, true_and, decide_eq_true_eq, hp]
    constructor
    · rintro ⟨m, ⟨k, hk⟩, rfl⟩
      exact ⟨k, by rw [← hk, hy]⟩
    · rintro ⟨k, rfl⟩
      exact ⟨s.rowMajor (g k), ⟨k, by simp⟩, by simp [hy]⟩
  rw [Ideal.argReduce_eq_reduce2, Host.reduce2_eq_foldl_fiber, hix, hiy]
  obtain ⟨h1, h2, h3⟩ := foldl_spec (Host.argReduceFiber x y h j) ((⊥ : EReal), 0#32)
  generalize hq : (Host.argReduceFiber x y h j).foldl (Cert.ReferenceIdeal.reducer_argmax_f32_i32 (F := Ideal)) ((⊥ : EReal), 0#32) = p at *
  have hcm := h3 _ ((hmem _).mpr ⟨c, rfl⟩)
  have hc0 := c.isLt
  rcases h1 with h1 | h1
  · rw [h1] at hcm ⊢
    rcases hcm with hcm | ⟨hcm, -⟩
    · exact absurd hcm not_lt_bot
    · have h0 : c ≤ ⟨0, by omega⟩ := hc.2 _ (by
        have h0 := hc.1 ⟨0, by omega⟩
        simp only at h0 hcm
        rw [hcm] at h0
        exact (le_bot_iff.mp h0).trans hcm.symm)
      have : c.val = 0 := Nat.le_zero.mp h0
      rw [this]
  · obtain ⟨k, rfl⟩ := (hmem _).mp h1
    rcases hcm with hcm | ⟨hcm, hle⟩
    · exact absurd hcm (not_lt.mpr (hc.1 k))
    · have hk := hc.2 k hcm.symm
      have hk0 := k.isLt
      rw [toInt_ofNat_lt (by omega), toInt_ofNat_lt (by omega)] at hle
      have : k = c := le_antisymm (by exact_mod_cast hle) hk
      rw [this]

/-! ## The kernel's index reduction -/

/-- The kernel's index reduction at a result index whose fiber `g` enumerates along the reduced axis. -/
theorem reduceIndex_of_fiber {s t : Shape} (axis : Fin s.rank) {n : Nat} (x : FVec Ideal s .f32) (h : s.Reduces [axis] t) (j : t.Idx)
    (g : Fin n → s.Idx) (hp : ∀ i, h.drop i = j ↔ ∃ k, g k = i) (hg : ∀ k, (g k axis).val = k.val) (c : Fin n)
    (hc : IsFirst (fun k => (x (g k) : EReal)) c) :
    Ideal.reduceIndex .argMax axis h x j = BitVec.ofNat 32 c.val := by
  classical
  unfold Ideal.reduceIndex
  simp only [if_true]
  congr 1
  rw [show (Finset.min _ : WithTop Nat) = ((c.val : Nat) : WithTop Nat) from ?_]
  · rfl
  · apply le_antisymm
    · refine Finset.min_le (Finset.mem_image.mpr ⟨g c, ?_, hg c⟩)
      simp only [Finset.mem_filter, Finset.mem_univ, true_and, hp, not_lt]
      refine ⟨⟨c, rfl⟩, ?_⟩
      rintro _ ⟨k, rfl⟩
      exact hc.1 k
    · refine Finset.le_min fun a ha => ?_
      obtain ⟨i, hi, rfl⟩ := Finset.mem_image.mp ha
      simp only [Finset.mem_filter, Finset.mem_univ, true_and, hp, not_lt] at hi
      obtain ⟨⟨k, rfl⟩, hi⟩ := hi
      rw [hg]
      have : c ≤ k := hc.2 k (le_antisymm (hc.1 k) (hi _ ⟨c, rfl⟩))
      exact WithTop.coe_le_coe.mpr this

/-! ## The kernel's least index among the greatest -/

/-- The signed minimum of two words is the minimum of the integers. -/
theorem toInt_minsi (a b : BitVec 32) : (IntOp.minsi a b).toInt = min a.toInt b.toInt := by
  unfold IntOp.minsi
  by_cases h : a.toInt < b.toInt
  · simp [BitVec.slt, h, min_eq_left h.le]
  · simp [BitVec.slt, h, min_eq_right (not_lt.mp h)]

/-- The least, over the indices, of the index where the value is the greatest and of a large word elsewhere. -/
theorem fold_minsi {n : Nat} (hn : n ≤ 2 ^ 30) (f : Fin n → EReal) (c : Fin n) (hc : IsFirst f c) :
    Finset.fold IntOp.minsi (2147483647#32)
      (fun k : Fin n => if f k = greatest f then BitVec.ofNat 32 k.val else 1073741824#32) Finset.univ = BitVec.ofNat 32 c.val := by
  apply BitVec.eq_of_toInt_eq
  rw [← Finset.fold_hom (op' := min) (m := BitVec.toInt) (by exact toInt_minsi)]
  have hc0 := c.isLt
  have hci : (BitVec.ofNat 32 c.val).toInt = c.val := toInt_ofNat_lt (by omega)
  have hbig : (2147483647#32).toInt = 2147483647 := rfl
  have hmid : (1073741824#32).toInt = 1073741824 := rfl
  rw [hci]
  apply le_antisymm
  · rw [Finset.fold_min_le]
    refine .inr ⟨c, Finset.mem_univ _, ?_⟩
    rw [if_pos (greatest_of_isFirst hc).symm, hci]
  · rw [Finset.le_fold_min]
    refine ⟨by rw [hbig]; omega, fun k _ => ?_⟩
    have hk0 := k.isLt
    split
    · next h =>
      rw [toInt_ofNat_lt (k := k.val) (by omega)]
      exact_mod_cast hc.2 k (by rw [h, greatest_of_isFirst hc])
    · rw [hmid]; omega

end Cert.Hand

end
-- ==== Proof.Rows.lean ====
/-
  The row part: the kernel's class probabilities, scores, classes and masked scores are the reference's, at every logit
  the extended reals hold; and a masked score is above zero exactly on a row the reference keeps.
-/
module

public import proofs.«01_k».proof.Proof.First
public import proofs.«01_k».proof.Proof.RefRun
public import proofs.«01_k».proof.Proof.Gen.KernelIdeal.Skeleton
public import proofs.«01_k».proof.Proof.Gen.KernelIdeal

@[expose] public section

set_option maxRecDepth 16384

noncomputable section

namespace Cert.Hand

open Idealize.ShloMosaic
open Cert.ReferenceIdeal.Hand
open Cert.KernelIdeal.Gen (k0_pay1 k0_pay2 k0_pay3 k0_pay4)

/-- The word a maximum starts from is the least extended real. -/
theorem ofBits_negInf : Ideal.ofBits .f32 0xFF800000#32 = ⊥ := by
  simp [Ideal.ofBits, Ideal.ieee]

/-- The threshold on the scores is positive. -/
theorem ofBits_threshold_pos : 0 < Ideal.ofBits .f32 0x3DCCCCCD#32 := by
  simp [Ideal.ofBits, Ideal.ieee, -EReal.coe_mul]

/-- The logits' array. -/
abbrev Logits := FVec Ideal Cert.ReferenceIdeal.S1000x21 FTy.f32

/-- The kernel's class probabilities are the reference's. -/
theorem pay1_eq (x : Logits) : k0_pay1 (F := Ideal) x = probs x := by
  funext j
  idx_vars j
  pointwise [k0_pay1, probs, rowExp, rowMax, ofBits_negInf, bot_sup_eq]

/-- The kernel's unmasked scores are the reference's. -/
theorem pay2_eq (x : Logits) (r : Fin 1000) : k0_pay2 (F := Ideal) x (ix2 r 0) = score x (ix1 r) := by
  pointwise [k0_pay2, score, pay1_eq]

/-- A score is the greatest of its query's probabilities. -/
theorem score_eq (x : Logits) (r : Fin 1000) : score x (ix1 r) = greatest fun k : Fin 21 => probs x (ix2 r k) := by
  pointwise [score, greatest, ofBits_negInf]

/-- The kernel's classes are the reference's: the least index among the greatest, and the argmax. -/
theorem pay3_eq (x : Logits) (r : Fin 1000) : k0_pay3 (F := Ideal) x (ix2 r 0) = cls x (ix1 r) := by
  obtain ⟨c, hc⟩ := exists_isFirst (fun k : Fin 21 => probs x (ix2 r k)) (by decide)
  trans BitVec.ofNat 32 c.val
  · pointwise [k0_pay3, k0_pay2, pay1_eq, ofBits_negInf]
    exact fold_minsi (by decide) _ c hc
  · symm
    unfold cls
    refine argReduce_of_fiber (by decide) _ _ _ _ _ _ _ (fun k : Fin 21 => ix2 r k)
      (fun i => Cert.ReferenceIdeal.Gen.reducesTo_S1000x21_S1000_d1.fiber_r2_a1 (ix1 r) i) (fun k => rfl) ?_ rfl c hc
    exact ofBits_negInf

/-- A one-bit word read as a float, by the kernel's route. -/
theorem sitofp_bit (b : BitVec 1) : (FloatOps.sitofp FTy.f32 (BitVec.setWidth 32 b) : Ideal .f32) = if b = 1#1 then (1 : EReal) else 0 := by
  rcases BitVec.eq_zero_or_eq_one b with rfl | rfl
  · show (((BitVec.setWidth 32 0#1).toInt : ℝ) : EReal) = _
    simp
  · show (((BitVec.setWidth 32 1#1).toInt : ℝ) : EReal) = _
    simp

/-- The same by the reference's route. -/
theorem uitofp_bit (b : BitVec 1) : (FloatOps.uitofp FTy.f32 b : Ideal .f32) = if b = 1#1 then (1 : EReal) else 0 := by
  rcases BitVec.eq_zero_or_eq_one b with rfl | rfl
  · show (((0#1 : BitVec 1).toNat : ℝ) : EReal) = _
    simp
  · show (((1#1 : BitVec 1).toNat : ℝ) : EReal) = _
    simp

/-- A masked score is the score times one or zero. -/
theorem mscore_eq (x : Logits) (r : Fin 1000) :
    mscore x (ix1 r) = score x (ix1 r) * if keep x (ix1 r) = 1#1 then (1 : EReal) else 0 := by
  pointwise [mscore]
  rw [uitofp_bit]

/-- The kernel's masked scores are the reference's. -/
theorem pay4_eq (x : Logits) (r : Fin 1000) : k0_pay4 (F := Ideal) x (ix2 r 0) = mscore x (ix1 r) := by
  rw [mscore_eq]
  pointwise [k0_pay4, keep]
  rw [sitofp_bit, pay2_eq, pay3_eq]

/-- A row is kept exactly when its masked score is above zero. -/
theorem mscore_pos (x : Logits) (r : Fin 1000) : 0 < mscore x (ix1 r) ↔ keep x (ix1 r) = 1#1 := by
  rw [mscore_eq]
  by_cases h : keep x (ix1 r) = 1#1
  · rw [if_pos h, mul_one]
    refine ⟨fun _ => h, fun _ => ?_⟩
    have h' := h
    pointwise [keep] at h'
    have hs : Ideal.ofBits .f32 0x3DCCCCCD#32 < score x (ix1 r) := by
      by_contra hn
      simp [hn, IntOp.andi] at h'
    exact ofBits_threshold_pos.trans hs
  · rw [if_neg h, mul_zero]
    exact ⟨fun h => absurd h (lt_irrefl _), fun h' => absurd h' h⟩

end Cert.Hand

end
-- ==== Proof.Softmax.lean ====
/-
  One pixel's column: the unnormalised softmax of a finite family of extended reals, and what a greatest value held once
  says of it: the sum is a positive real, and dividing by it keeps the index of the greatest value.
-/
module

public import proofs.«01_k».proof.Proof.First

@[expose] public section

noncomputable section

namespace Cert.Hand

open Idealize.ShloMosaic

/-- The unnormalised softmax: the exponential of the distance to the greatest value. -/
def expo {n : Nat} (v : Fin n → EReal) (r : Fin n) : EReal := Ideal.exp (v r - greatest v)

/-- It is a real number, not below zero, whatever the family holds. -/
theorem expo_real {n : Nat} (v : Fin n → EReal) (r : Fin n) : ∃ e : ℝ, 0 ≤ e ∧ expo v r = (e : EReal) := by
  unfold expo
  have hle := le_greatest v r
  have hne : v r - greatest v ≠ ⊤ := by
    generalize greatest v = M at *
    generalize v r = a at *
    induction M using EReal.rec with
    | bot =>
      rw [le_bot_iff.mp hle]; decide
    | top => rw [EReal.sub_top]; decide
    | coe m =>
      induction a using EReal.rec with
      | bot => rw [EReal.bot_sub]; decide
      | top => exact absurd (top_le_iff.mp hle) (EReal.coe_ne_top m)
      | coe a => rw [← EReal.coe_sub]; exact EReal.coe_ne_top _
  generalize v r - greatest v = z at *
  induction z using EReal.rec with
  | bot => exact ⟨0, le_rfl, rfl⟩
  | top => exact absurd rfl hne
  | coe z => exact ⟨Real.exp z, (Real.exp_pos z).le, rfl⟩

/-- A sum of reals is the real sum. -/
theorem sum_coe {ι : Type} (s : Finset ι) (e : ι → ℝ) : (∑ i ∈ s, (e i : EReal)) = ((∑ i ∈ s, e i : ℝ) : EReal) := by
  classical
  induction s using Finset.induction_on with
  | empty => simp
  | insert a s ha ih => rw [Finset.sum_insert ha, Finset.sum_insert ha, ih, EReal.coe_add]

/-- The greatest value of the family is held at `c` and nowhere else. -/
def OnlyAt {n : Nat} (f : Fin n → EReal) (c : Fin n) : Prop := ∀ r, r ≠ c → f r < f c

/-- An index that alone holds the greatest value is the first that does. -/
theorem OnlyAt.isFirst {n : Nat} {f : Fin n → EReal} {c : Fin n} (h : OnlyAt f c) : IsFirst f c := by
  refine ⟨fun i => ?_, fun i hi => ?_⟩
  · by_cases e : i = c
    · rw [e]
    · exact (h i e).le
  · by_cases e : i = c
    · rw [e]
    · exact absurd hi (h i e).ne

section Column
variable {n : Nat} (v : Fin n → EReal) (c : Fin n) (h : OnlyAt (expo v) c) (h2 : ∃ r : Fin n, r ≠ c)
include h h2

/-- The sum is a positive real. -/
theorem sum_expo_real : ∃ d : ℝ, 0 < d ∧ (∑ r, expo v r) = (d : EReal) := by
  choose e he0 he using expo_real v
  refine ⟨∑ r, e r, ?_, by simp only [he]; exact sum_coe _ e⟩
  obtain ⟨r, hr⟩ := h2
  have hlt := h r hr
  rw [he, he, EReal.coe_lt_coe_iff] at hlt
  exact Finset.sum_pos' (fun i _ => he0 i) ⟨c, Finset.mem_univ _, (he0 r).trans_lt hlt⟩

/-- The sum of a column's exponentials is not zero. -/
theorem sum_expo_ne_zero : (∑ r, expo v r) ≠ 0 := by
  obtain ⟨d, hd, e⟩ := sum_expo_real v c h h2
  rw [e]
  exact (EReal.coe_pos.mpr hd).ne'

/-- The normalised softmax has its greatest value at the same index, and nowhere else. -/
theorem onlyAt_div : OnlyAt (fun r => Ideal.div (expo v r) (∑ r, expo v r)) c := by
  intro r hr
  have hlt := h r hr
  have hz := sum_expo_ne_zero v c h h2
  obtain ⟨d, hd, e⟩ := sum_expo_real v c h h2
  obtain ⟨a, -, ha⟩ := expo_real v r
  obtain ⟨b, -, hb⟩ := expo_real v c
  show Ideal.div _ _ < Ideal.div _ _
  unfold Ideal.div
  rw [if_neg hz, if_neg hz, e, ha, hb, ← EReal.coe_inv, ← EReal.coe_mul, ← EReal.coe_mul, EReal.coe_lt_coe_iff]
  rw [ha, hb, EReal.coe_lt_coe_iff] at hlt
  exact mul_lt_mul_of_pos_right hlt (inv_pos.mpr hd)

/-- Multiplying by the sum's reciprocal is dividing by the sum. -/
theorem mul_recip (r : Fin n) : expo v r * Ideal.div 1 (∑ r, expo v r) = Ideal.div (expo v r) (∑ r, expo v r) := by
  unfold Ideal.div
  rw [if_neg (sum_expo_ne_zero v c h h2), if_neg (sum_expo_ne_zero v c h h2), one_mul]

end Column

/-! ## A count of one -/

/-- A wrapping sum of zeros and ones over fewer than 2³² indices that reads one has exactly one one. -/
theorem exists_unique_of_fold_addi {n : Nat} (hn : n < 2 ^ 32) (p : Fin n → Prop) [DecidablePred p]
    (h : Finset.fold IntOp.addi (0#32) (fun r => if p r then 1#32 else 0#32) Finset.univ = 1#32) : ∃ c, ∀ r, p r ↔ r = c := by
  have : Std.Commutative (fun a b : Nat => a + b) := ⟨Nat.add_comm⟩
  have : Std.Associative (fun a b : Nat => a + b) := ⟨Nat.add_assoc⟩
  have hf : Finset.fold IntOp.addi (0#32) (fun r => if p r then 1#32 else 0#32) Finset.univ
      = BitVec.ofNat 32 (Finset.fold (fun a b : Nat => a + b) 0 (fun r => if p r then 1 else 0) Finset.univ) := by
    rw [← Finset.fold_hom (op := fun a b : Nat => a + b) (op' := IntOp.addi) (m := BitVec.ofNat 32)
      (fun a b => by simp [IntOp.addi, BitVec.ofNat_add])]
    congr 1
    funext r
    split <;> rfl
  have hs : Finset.fold (fun a b : Nat => a + b) 0 (fun r => if p r then 1 else 0) Finset.univ = (Finset.univ.filter p).card := by
    rw [Finset.card_filter]; rfl
  rw [hf, hs] at h
  have hle : (Finset.univ.filter p).card ≤ n := by
    simpa using Finset.card_filter_le (Finset.univ : Finset (Fin n)) p
  have hc : (Finset.univ.filter p).card = 1 := by
    have := congrArg BitVec.toNat h
    simp only [BitVec.toNat_ofNat] at this
    omega
  obtain ⟨c, hc⟩ := Finset.card_eq_one.mp hc
  refine ⟨c, fun r => ?_⟩
  have := Finset.ext_iff.mp hc r
  simpa using this

end Cert.Hand

end
-- ==== Proof.Cols.lean ====
/-
  The pixel part: what the kernel computes of one block of 2048 pixels is what the reference computes at those pixels,
  where the stated precondition holds (each pixel's greatest softmax value is held by exactly one row).
-/
module

public import proofs.«01_k».proof.Proof.Rows
public import proofs.«01_k».proof.Proof.Softmax
public import proofs.«01_k».proof.Proof.Gen.Pre_no_tie

@[expose] public section

set_option maxRecDepth 16384

noncomputable section

namespace Cert.Hand

open Idealize.ShloMosaic
open Cert.ReferenceIdeal.Hand
open Cert.KernelIdeal.Gen (k0_pay4 k0_pay5 k0_pay6 k0_pay7 k0_pay8)

/-- The mask logits' array. -/
abbrev Masks := FVec Ideal Cert.ReferenceIdeal.S1000x128x128 FTy.f32

/-- The masked logits of pixel `p`, down the rows. -/
def column (x : Logits) (y : Masks) (p : Fin 16384) (r : Fin 1000) : EReal := masked x y (ix2 r p)

/-- A column at a query: the mask logit where the query is kept, and the large negative constant where it is not. -/
theorem column_eq (x : Logits) (y : Masks) (p : Fin 16384) (r : Fin 1000) :
    column x y p r = if keep x (ix1 r) = 1#1 then y (ix3 r ⟨p.val / 128, by omega⟩ ⟨p.val % 128, by omega⟩)
      else Ideal.ofBits .f32 0xC7C34F80#32 := by
  unfold column
  pointwise [masked]
  rfl

/-! ## Reductions down the rows, at any extent -/

/-- The host's maximum down the rows, started at the least value, is the greatest of the column. -/
theorem hmax_rows {a b : Nat} {u : Shape} (v : FVec Ideal ⟨2, ![a, b]⟩ .f32) (init : FVec Ideal u .f32)
    (h : (⟨2, ![a, b]⟩ : Shape).ReducesTo [0] ⟨1, ![b]⟩) (hu : 0 < u.numel) (k : Fin b)
    (hi : init (Shape.Idx.first hu) = (⊥ : EReal)) :
    Host.reduce FloatOps.maximumf v init h hu (ix1 k) = greatest fun r : Fin a => v (ix2 r k) := by
  rw [Host.reduce_eq_fold, hi]
  exact h.fold_fiber_r2_a0 (ix1 k) _ _ v

/-- The host's integer sum down the rows is a fold over the column's entries. -/
theorem hadd_rows {a b : Nat} {u : Shape} (v : IVec ⟨2, ![a, b]⟩ 32) (init : IVec u 32)
    (h : (⟨2, ![a, b]⟩ : Shape).ReducesTo [0] ⟨1, ![b]⟩) (hu : 0 < u.numel) (k : Fin b) :
    Host.reduce IntOp.addi v init h hu (ix1 k)
      = (Finset.univ : Finset (Fin a)).fold IntOp.addi (init (Shape.Idx.first hu)) fun r => v (ix2 r k) := by
  rw [Host.reduce_eq_fold]
  exact h.fold_fiber_r2_a0 (ix1 k) _ _ v

/-- The host's argmax down the rows is the first index at which the column is greatest. -/
theorem argmax_rows {a b : Nat} {u : Shape} (ha : a ≤ 2 ^ 31) (v : FVec Ideal ⟨2, ![a, b]⟩ .f32) (ix : FVec Ideal u .f32)
    (iy : IVec u 32) (h : (⟨2, ![a, b]⟩ : Shape).ReducesTo [0] ⟨1, ![b]⟩) (hu : 0 < u.numel) (k : Fin b)
    (hix : ix (Shape.Idx.first hu) = (⊥ : EReal)) (hiy : iy (Shape.Idx.first hu) = 0#32) (c : Fin a)
    (hc : IsFirst (fun r : Fin a => (v (ix2 r k) : EReal)) c) :
    (Host.argReduce (F := Ideal) Cert.ReferenceIdeal.reducer_argmax_f32_i32 v (iotaInDim ⟨2, ![a, b]⟩ 32 0) ix iy h hu (ix1 k)).2
      = BitVec.ofNat 32 c.val :=
  argReduce_of_fiber ha _ _ _ _ _ _ _ (fun r : Fin a => ix2 r k) (fun i => h.fiber_r2_a0 (ix1 k) i) (fun _ => rfl) hix hiy c hc

/-- The kernel's argmax down the rows is the first index at which the column is greatest. -/
theorem reduceIndex_rows {a b : Nat} (v : FVec Ideal ⟨2, ![a, b]⟩ .f32) (h : (⟨2, ![a, b]⟩ : Shape).Reduces [0] ⟨1, ![b]⟩)
    (k : Fin b) (c : Fin a) (hc : IsFirst (fun r : Fin a => (v (ix2 r k) : EReal)) c) :
    reduceIndex .argMax 0 ⟨1, ![b]⟩ v h (ix1 k) = BitVec.ofNat 32 c.val :=
  reduceIndex_of_fiber 0 _ _ _ (fun r : Fin a => ix2 r k) (fun i => h.fiber_r2_a0 (ix1 k) i) (fun _ => rfl) c hc

/-! ## The reference at a pixel -/

/-- The reference's maximum at a pixel is the greatest of the pixel's column. -/
theorem colMax_eq (v : FVec Ideal Cert.ReferenceIdeal.S1000x16384 .f32) (p : Fin 16384) :
    colMax v (ix1 p) = greatest fun r : Fin 1000 => v (ix2 r p) := by
  unfold colMax
  rw [maximumf_apply, hmax_rows _ _ _ _ _ ofBits_negInf]
  pointwise [ofBits_negInf, bot_sup_eq]

/-- The reference's exponential at a query and a pixel. -/
theorem colExp_eq (x : Logits) (y : Masks) (r : Fin 1000) (p : Fin 16384) :
    colExp (masked x y) (ix2 r p) = expo (column x y p) r := by
  pointwise [colExp]
  rw [colMax_eq]
  rfl

/-- The reference's softmax at a query and a pixel: the exponential over the sum of the column's. -/
theorem soft_eq (x : Logits) (y : Masks) (r : Fin 1000) (p : Fin 16384) :
    soft x y (ix2 r p) = Ideal.div (expo (column x y p) r) (∑ r, expo (column x y p) r) := by
  pointwise [soft]
  simp only [colExp_eq]

/-- The reference's third result at a query and a pixel: the softmax times the query's masked score. -/
theorem weighted_eq (x : Logits) (y : Masks) (r : Fin 1000) (p : Fin 16384) :
    weighted x y (ix2 r p) = Ideal.div (expo (column x y p) r) (∑ r, expo (column x y p) r) * mscore x (ix1 r) := by
  pointwise [weighted]
  rw [soft_eq]

/-- There is more than one query. -/
theorem exists_other (c : Fin 1000) : ∃ r : Fin 1000, r ≠ c := by
  by_cases h : c = 0
  · exact ⟨1, by rw [h]; decide⟩
  · exact ⟨0, Ne.symm h⟩

/-- The reference's argmax at a pixel is the first index at which that pixel's column is greatest. -/
theorem argmax_pixel (v : FVec Ideal Cert.ReferenceIdeal.S1000x16384 .f32) (p : Fin 16384) (c : Fin 1000)
    (hc : IsFirst (fun r : Fin 1000 => (v (ix2 r p) : EReal)) c) :
    (Host.argReduce (F := Ideal) Cert.ReferenceIdeal.reducer_argmax_f32_i32 v (iotaInDim Cert.ReferenceIdeal.S1000x16384 32 0)
      (constant Cert.ReferenceIdeal.S_ .f32 0xFF800000#32) (constantI Cert.ReferenceIdeal.S_ 32 0#32)
      Cert.ReferenceIdeal.Gen.reducesTo_S1000x16384_S16384_d0 Cert.ReferenceIdeal.Gen.h_S_ (ix1 p)).2 = BitVec.ofNat 32 c.val :=
  argmax_rows (by norm_num) v _ _ _ _ p ofBits_negInf rfl c hc

/-- Where one query alone holds the greatest exponential, it is also the first at which the softmax is greatest. -/
theorem soft_isFirst (x : Logits) (y : Masks) (p : Fin 16384) (c : Fin 1000) (hc : OnlyAt (expo (column x y p)) c) :
    IsFirst (fun r : Fin 1000 => (soft x y (ix2 r p) : EReal)) c := by
  simp only [soft_eq]
  exact (onlyAt_div _ c hc (exists_other c)).isFirst

/-- The reference's fourth result as a function of the pixel's index. -/
theorem mid_def (x : Logits) (y : Masks) :
    mid x y = fun j => (Host.argReduce (F := Ideal) Cert.ReferenceIdeal.reducer_argmax_f32_i32 (soft x y)
      (iotaInDim Cert.ReferenceIdeal.S1000x16384 32 0)
      (constant Cert.ReferenceIdeal.S_ .f32 0xFF800000#32) (constantI Cert.ReferenceIdeal.S_ 32 0#32)
      Cert.ReferenceIdeal.Gen.reducesTo_S1000x16384_S16384_d0 Cert.ReferenceIdeal.Gen.h_S_ j).2 := rfl

/-- The reference's fourth result at a pixel is the query that alone holds the greatest exponential. -/
theorem mid_eq (x : Logits) (y : Masks) (p : Fin 16384) (c : Fin 1000) (hc : OnlyAt (expo (column x y p)) c) :
    mid x y (ix1 p) = BitVec.ofNat 32 c.val :=
  (congrFun (mid_def x y) (ix1 p)).trans (argmax_pixel (soft x y) p c (soft_isFirst x y p c hc))

/-! ## The precondition at a pixel -/

/-- The precondition's unnormalised softmax. -/
def preExp (z : FVec Ideal Cert.Pre_no_tie.S1000x16384 .f32) : FVec Ideal Cert.Pre_no_tie.S1000x16384 .f32 :=
  Host.exp (subf z (broadcastInDim Cert.Pre_no_tie.S1000x16384 ![0, 1] Cert.Pre_no_tie.Gen.bcast_S1x16384_S1000x16384_0_1
    (broadcastInDim Cert.Pre_no_tie.S1x16384 ![1] Cert.Pre_no_tie.Gen.bcast_S16384_S1x16384_1
      (Host.reduce FloatOps.maximumf z (constant Cert.Pre_no_tie.S_ .f32 0xFF800000#32)
        Cert.Pre_no_tie.Gen.reducesTo_S1000x16384_S16384_d0 Cert.Pre_no_tie.Gen.h_S_))))

/-- The precondition's mask of the entries equal to their column's greatest, as words. -/
def preEq (z : FVec Ideal Cert.Pre_no_tie.S1000x16384 .f32) : IVec Cert.Pre_no_tie.S1000x16384 32 :=
  extui 32 (cmpf .oeq z (broadcastInDim Cert.Pre_no_tie.S1000x16384 ![0, 1] Cert.Pre_no_tie.Gen.bcast_S1x16384_S1000x16384_0_1
    (broadcastInDim Cert.Pre_no_tie.S1x16384 ![1] Cert.Pre_no_tie.Gen.bcast_S16384_S1x16384_1
      (Host.reduce FloatOps.maximumf z (constant Cert.Pre_no_tie.S_ .f32 0xFF800000#32)
        Cert.Pre_no_tie.Gen.reducesTo_S1000x16384_S16384_d0 Cert.Pre_no_tie.Gen.h_S_)))) Cert.Pre_no_tie.Gen.natLt_1_32

/-- The precondition's exponentials are those of the column. -/
theorem preExp_eq (z : FVec Ideal Cert.Pre_no_tie.S1000x16384 .f32) (r : Fin 1000) (p : Fin 16384) :
    preExp z (ix2 r p) = expo (fun r : Fin 1000 => z (ix2 r p)) r := by
  unfold preExp
  generalize hM : Host.reduce FloatOps.maximumf z _ _ _ = M
  have hM' : M (ix1 p) = greatest fun r : Fin 1000 => z (ix2 r p) := by
    rw [← hM]; exact hmax_rows _ _ _ _ _ ofBits_negInf
  pointwise
  rw [hM']
  rfl

/-- The precondition's mask is one exactly at the entries equal to their column's greatest. -/
theorem preEq_eq (z : FVec Ideal Cert.Pre_no_tie.S1000x16384 .f32) (r : Fin 1000) (p : Fin 16384) :
    preEq z (ix2 r p) = if z (ix2 r p) = greatest (fun r : Fin 1000 => z (ix2 r p)) then 1#32 else 0#32 := by
  unfold preEq
  generalize hM : Host.reduce FloatOps.maximumf z _ _ _ = M
  have hM' : M (ix1 p) = greatest fun r : Fin 1000 => z (ix2 r p) := by
    rw [← hM]; exact hmax_rows _ _ _ _ _ ofBits_negInf
  pointwise
  rw [hM']
  split
  · next h => simp [h]
  · next h => simp [h]

/-- The precondition: at each pixel, the count of the entries equal to the greatest exponential is one. -/
theorem pre_eq (x : Logits) (y : Masks) :
    Cert.Pre_no_tie.fn (F := Ideal) x y
      = cmpi .eq (broadcastInDim Cert.Pre_no_tie.S1x16384 ![1] Cert.Pre_no_tie.Gen.bcast_S16384_S1x16384_1
          (Host.reduce IntOp.addi (preEq (preExp (masked x y))) (constantI Cert.Pre_no_tie.S_ 32 0#32)
            Cert.Pre_no_tie.Gen.reducesTo_S1000x16384_S16384_d0 Cert.Pre_no_tie.Gen.h_S_))
          (broadcastInDim Cert.Pre_no_tie.S1x16384 ![] Cert.Pre_no_tie.Gen.bcast_S_S1x16384 (constantI Cert.Pre_no_tie.S_ 32 1#32)) :=
  rfl

/-- Where the precondition holds, each pixel's greatest softmax value is held by exactly one row. -/
theorem onlyAt_of_pre (x : Logits) (y : Masks) (hpre : Cert.Pre_no_tie.fn (F := Ideal) x y = fun _ => 1#1) (p : Fin 16384) :
    ∃ c, OnlyAt (expo (column x y p)) c := by
  have h := congrFun hpre (ix2 0 p)
  rw [pre_eq] at h
  generalize hM : Host.reduce IntOp.addi _ _ _ _ = M at h
  have hM' : M (ix1 p) = Finset.fold IntOp.addi (0#32)
      (fun r : Fin 1000 => if expo (column x y p) r = greatest (expo (column x y p)) then 1#32 else 0#32) Finset.univ := by
    rw [← hM]
    refine (hadd_rows _ _ _ _ _).trans ?_
    simp only [preEq_eq, preExp_eq]
    rfl
  pointwise at h
  rw [hM'] at h
  obtain ⟨c, hc⟩ := exists_unique_of_fold_addi (by norm_num)
    (fun r : Fin 1000 => expo (column x y p) r = greatest (expo (column x y p))) (by
      by_contra hne
      have e : (Finset.fold IntOp.addi (0#32)
          (fun r : Fin 1000 => if expo (column x y p) r = greatest (expo (column x y p)) then 1#32 else 0#32) Finset.univ
            == 1#32) = false := beq_eq_false_iff_ne.mpr hne
      simp only [IntOp.cmpi, e] at h
      exact absurd h (by decide))
  refine ⟨c, fun r hr => lt_of_le_of_ne ?_ fun e => hr ((hc r).mp ?_)⟩
  · have hcc : expo (column x y p) c = greatest (expo (column x y p)) := (hc c).mpr rfl
    rw [hcc]; exact le_greatest _ r
  · exact e.trans ((hc c).mpr rfl)

/-! ## The kernel at a pixel of a block -/

/-- `z` is block `t` of the masks: sixteen of the 128 rows of pixels. -/
def IsBlock (y : Masks) (t : Fin 8) (z : FVec Ideal Cert.KernelIdeal.S1000x16x128 .f32) : Prop :=
  ∀ (r : Fin 1000) (a : Fin 16) (b : Fin 128), z (ix3 r a b) = y (ix3 r ⟨16 * t.val + a.val, by omega⟩ b)

/-- Pixel `q` of block `t`. -/
def pix (t : Fin 8) (q : Fin 2048) : Fin 16384 := ⟨2048 * t.val + q.val, by omega⟩

/-- The kernel's masking by arithmetic is the reference's selection. -/
theorem mask_arith (a f c : EReal) (hf : f = 1 ∨ f = 0) : a * f + (1 - f) * c = if f = 1 then a else c := by
  rcases hf with rfl | rfl
  · rw [if_pos rfl, mul_one, show (1 : EReal) - 1 = 0 from by rw [← EReal.coe_one, ← EReal.coe_sub, sub_self, EReal.coe_zero],
      zero_mul, add_zero]
  · rw [if_neg zero_ne_one, mul_zero, sub_zero, one_mul, zero_add]

section Block
variable (x : Logits) (y : Masks) (t : Fin 8) (z : FVec Ideal Cert.KernelIdeal.S1000x16x128 .f32) (hz : IsBlock y t z)
include hz

/-- The kernel's masked logits in a block are the columns of the block's pixels. -/
theorem masked_block (r : Fin 1000) (q : Fin 2048) :
    z (ix3 r ⟨q.val / 128, by omega⟩ ⟨q.val % 128, by omega⟩)
          * FloatOps.sitofp FTy.f32 (BitVec.setWidth 32 (BitVec.ofBool (decide (0 < k0_pay4 (F := Ideal) x (ix2 r 0)))))
        + (1 - FloatOps.sitofp FTy.f32 (BitVec.setWidth 32 (BitVec.ofBool (decide (0 < k0_pay4 (F := Ideal) x (ix2 r 0))))))
          * Ideal.ofBits FTy.f32 0xC7C34F80#32
      = column x y (pix t q) r := by
  rw [sitofp_bit, pay4_eq, mask_arith _ _ _ (by split <;> simp), column_eq, hz]
  by_cases h : keep x (ix1 r) = 1#1
  · rw [if_pos h, decide_eq_true ((mscore_pos x r).mpr h), if_pos (show BitVec.ofBool true = 1#1 from rfl), if_pos rfl]
    congr 2
    · apply Fin.ext; show 16 * t.val + q.val / 128 = (2048 * t.val + q.val) / 128; omega
    · apply Fin.ext; show q.val % 128 = (2048 * t.val + q.val) % 128; omega
  · rw [if_neg h, decide_eq_false (fun h' => h ((mscore_pos x r).mp h')),
      if_neg (show ¬ BitVec.ofBool false = 1#1 by decide), if_neg zero_ne_one]

/-- The kernel's exponentials in a block. -/
theorem pay6_eq (r : Fin 1000) (q : Fin 2048) :
    k0_pay6 (F := Ideal) (k0_pay4 (F := Ideal) x) z (ix2 r q) = expo (column x y (pix t q)) r := by
  pointwise [k0_pay6, k0_pay5]
  have e := fun r => masked_block x y t z hz r q
  rw [e r, ofBits_negInf]
  exact congrArg (fun f : Fin 1000 → EReal => Ideal.exp (column x y (pix t q) r - Finset.fold max ⊥ f Finset.univ)) (funext e)

/-- What a grid step stores into the third result is the reference's third result at the block's pixels. -/
theorem pay7_eq (r : Fin 1000) (q : Fin 2048) (c : Fin 1000) (hc : OnlyAt (expo (column x y (pix t q))) c) :
    k0_pay7 (F := Ideal) (k0_pay4 (F := Ideal) x) z (ix2 r q) = weighted x y (ix2 r (pix t q)) := by
  pointwise [k0_pay7, k0_pay5]
  simp only [pay6_eq x y t z hz]
  rw [mul_recip _ c hc (exists_other c), weighted_eq, pay4_eq]

/-- What a grid step stores into the fourth result is the reference's fourth result at the block's pixels. -/
theorem pay8_eq (q : Fin 2048) (c : Fin 1000) (hc : OnlyAt (expo (column x y (pix t q))) c) :
    k0_pay8 (F := Ideal) (k0_pay4 (F := Ideal) x) z (ix2 0 q) = mid x y (ix1 (pix t q)) := by
  rw [mid_eq x y _ c hc]
  pointwise [k0_pay8]
  refine reduceIndex_rows _ _ q c ?_
  simp only [pay6_eq x y t z hz]
  exact hc.isFirst

end Block

end Cert.Hand

end
-- ==== Proof.Value.lean ====
/-
  What the kernel's four results end holding, at the ideal instance: the scores and the classes are the reference's, and
  where the precondition holds so are the weighted masks and the winning row of each pixel. Each array of the pipeline is
  read off what the grid steps left (../Proof/Run.lean) block by block, and the three results the program reshapes after
  the region are read through their reshape.
-/
module

public import proofs.«01_k».proof.Proof.Run
public import proofs.«01_k».proof.Proof.Cols
public import Idealize.ShloMosaic.Lib.Pipeline.ValueKit

@[expose] public section

set_option maxRecDepth 16384

noncomputable section

namespace Cert.KernelIdeal.Hand

open Cert.KernelIdeal Cert.KernelIdeal.Gen Cert.Hand
open Cert.ReferenceIdeal.Hand (mscore cls weighted mid)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The whole array of mask logits. -/
def masks (c : Dev nD) : Masks := m ((c : Thread nD τ).loc main_arg1)

/-- The precondition of the two arguments, on device `c`. -/
def NoTie (c : Dev nD) : Prop := Cert.Pre_no_tie.fn (F := Ideal) (logits m c) (masks m c) = fun _ => 1#1

/-! ## Where the windows' blocks lie -/

/-- Window 1, the mask logits: step `t` reads block `t`. -/
theorem index1 : ∀ t : Fin cfg0.N, win0_1.index t = ![0, t.val, 0] := (by decide +kernel : ∀ t : Fin grid0.N, _)
/-- Window 2, the scores: one block for every step. -/
theorem index2 : ∀ t : Fin cfg0.N, win0_2.index t = ![0, 0] := (by decide +kernel : ∀ t : Fin grid0.N, _)
/-- Window 3, the classes: one block for every step. -/
theorem index3 : ∀ t : Fin cfg0.N, win0_3.index t = ![0, 0] := (by decide +kernel : ∀ t : Fin grid0.N, _)
/-- Window 4, the third result: step `t` writes block `t`. -/
theorem index4 : ∀ t : Fin cfg0.N, win0_4.index t = ![0, t.val] := (by decide +kernel : ∀ t : Fin grid0.N, _)
/-- Window 5, the fourth result: step `t` writes block `t`. -/
theorem index5 : ∀ t : Fin cfg0.N, win0_5.index t = ![0, t.val] := (by decide +kernel : ∀ t : Fin grid0.N, _)

/-- Step `t` as one of the eight blocks. -/
def blockOf (t : Fin cfg0.N) : Fin 8 := ⟨t.val, Nat.lt_of_lt_of_eq t.isLt N_0⟩

/-- What step `t` loads of the masks is their block `t`. -/
theorem isBlock (c : Dev nD) (t : Fin cfg0.N) : IsBlock (masks m c) (blockOf t) (iblk m c 1 t) := by
  intro r a b
  blk_simp [iblk, index1]
  show m ((c : Thread nD τ).loc main_arg1) _ = m ((c : Thread nD τ).loc main_arg1) _
  congr 1
  funext k
  apply Fin.ext
  match k with
  | ⟨0, _⟩ => blk_simp [index1]
  | ⟨1, _⟩ => blk_simp [index1]; simp [blockOf]; omega
  | ⟨2, _⟩ => blk_simp [index1]

/-! ## The arrays the pipeline leaves -/

/-- The scores' array after the grid: what the first step computed. -/
theorem final2 (c : Dev nD) : (dats m 0 c).arrAt 2 cfg0.N = k0_pay4 (F := Ideal) (logits m c) := by
  refine (dats m 0 c).arrAt_eq_of_covers 2 _ (by decide +kernel) fun t hf y => ?_
  blk_simp
  rw [after2]
  congr 1
  blk_ext [index2]

/-- The classes' array after the grid: what the first step computed. -/
theorem final3 (c : Dev nD) : (dats m 0 c).arrAt 3 cfg0.N = k0_pay3 (F := Ideal) (logits m c) := by
  refine (dats m 0 c).arrAt_eq_of_covers 3 _ (by decide +kernel) fun t hf y => ?_
  blk_simp
  rw [after3]
  congr 1
  blk_ext [index3]

/-- The third result's array after the grid. -/
theorem final4 (c : Dev nD) (hpre : NoTie m c) : (dats m 0 c).arrAt 4 cfg0.N = weighted (logits m c) (masks m c) := by
  refine (dats m 0 c).arrAt_eq_of_covers 4 _ (by decide +kernel) fun t hf y => ?_
  blk_simp
  rw [after4]
  obtain ⟨r, q, rfl⟩ : ∃ (r : Fin 1000) (q : Fin 2048), y = ix2 r q := ⟨y 0, y 1, eq_ix2 y⟩
  obtain ⟨d, hd⟩ := onlyAt_of_pre (logits m c) (masks m c) hpre (pix (blockOf t) q)
  refine (pay7_eq _ _ _ _ (isBlock m c t) r q d hd).trans (congrArg (weighted (logits m c) (masks m c)) ?_)
  funext k
  apply Fin.ext
  match k with
  | ⟨0, _⟩ => blk_simp [index4]
  | ⟨1, _⟩ => blk_simp [index4]; simp [blockOf, pix]; omega

/-- The fourth result's array after the grid, before its reshape. -/
theorem final5 (c : Dev nD) (hpre : NoTie m c) :
    (dats m 0 c).arrAt 5 cfg0.N = fun i : S1x16384.Idx => mid (logits m c) (masks m c) (ix1 (i 1)) := by
  refine (dats m 0 c).arrAt_eq_of_covers 5 _ (by decide +kernel) fun t hf y => ?_
  blk_simp
  rw [after5]
  obtain ⟨r, q, rfl⟩ : ∃ (r : Fin 1) (q : Fin 2048), y = ix2 r q := ⟨y 0, y 1, eq_ix2 y⟩
  obtain rfl : r = 0 := Subsingleton.elim _ _
  obtain ⟨d, hd⟩ := onlyAt_of_pre (logits m c) (masks m c) hpre (pix (blockOf t) q)
  refine (pay8_eq _ _ _ _ (isBlock m c t) q d hd).trans (congrArg (fun k => mid (logits m c) (masks m c) (ix1 k)) ?_)
  apply Fin.ext
  blk_simp [index5]
  simp [blockOf, pix]; omega

/-! ## The results, after the reshapes -/

/-- What the program's buffers hold at the end. -/
abbrev atEnd (c : Dev nD) (b : Ref sig .tc) : Buf (Elt Ideal) ((c : Thread nD τ).loc b) :=
  Pipeline.afterTail₀ cfgs (dats m) 0 (V0 m) [hostOps1] c b

/-- Window `w`'s array, when the region is left. -/
theorem array_eq (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 launch0.win.arr_inj c (V0 m c) (fun w => (dats m 0 c).arrAt w cfg0.N) w

/-- The first result, after its reshape. -/
theorem scores_end (c : Dev nD) : atEnd m c main_v1 = mscore (logits m c) := by
  have h := (array_eq m c 2).trans (final2 m c)
  unfold atEnd Pipeline.afterTail₀
  generalize Pipeline.withArrays (cfgs 0).spec c (V0 m c) _ = W at h ⊢
  simp only [List.flatten_cons, List.flatten_nil, List.append_nil, hostOps1]
  after_region_results
  have h' : W (Proc.tc.devRef main_v0_0) = k0_pay4 (F := Ideal) (logits m c) := h
  rw [h']
  funext i
  obtain ⟨r, rfl⟩ : ∃ r : Fin 1000, i = ix1 r := ⟨i 0, eq_ix1 i⟩
  show shapeCast S1000 (k0_pay4 (F := Ideal) (logits m c)) shapeCasts_S1000x1_S1000 (ix1 r) = _
  rw [← pay4_eq]
  generalize k0_pay4 (F := Ideal) (logits m c) = v
  pointwise

/-- The second result, after its reshape. -/
theorem classes_end (c : Dev nD) : atEnd m c main_v2 = cls (logits m c) := by
  have h := (array_eq m c 3).trans (final3 m c)
  unfold atEnd Pipeline.afterTail₀
  generalize Pipeline.withArrays (cfgs 0).spec c (V0 m c) _ = W at h ⊢
  simp only [List.flatten_cons, List.flatten_nil, List.append_nil, hostOps1]
  after_region_results
  have h' : W (Proc.tc.devRef main_v0_1) = k0_pay3 (F := Ideal) (logits m c) := h
  rw [h']
  funext i
  obtain ⟨r, rfl⟩ : ∃ r : Fin 1000, i = ix1 r := ⟨i 0, eq_ix1 i⟩
  show shapeCast S1000 (k0_pay3 (F := Ideal) (logits m c)) shapeCasts_S1000x1_S1000 (ix1 r) = _
  rw [← pay3_eq]
  generalize k0_pay3 (F := Ideal) (logits m c) = v
  pointwise

/-- The reshape of the winners, at any contents. -/
theorem reshape_end (W : Valuation τ sig (Elt Ideal)) :
    StableHlo.after (hostOps1 (F := Ideal)) W (Proc.devRef .tc main_v3)
      = shapeCast S16384 (W (Proc.devRef .tc main_v0_3)) shapeCasts_S1x16384_S16384 := by
  after_region_results
  rfl

/-- One row of 16384 words, read as a vector. -/
theorem row_cast (v : IVec S16384 32) :
    shapeCast S16384 (fun i : S1x16384.Idx => v (ix1 (i 1))) shapeCasts_S1x16384_S16384 = v := by
  funext i
  obtain ⟨p, rfl⟩ : ∃ p : Fin 16384, i = ix1 p := ⟨i 0, eq_ix1 i⟩
  pointwise

/-- The fourth result, after its reshape. -/
theorem winners_end (c : Dev nD) (hpre : NoTie m c) : atEnd m c main_v3 = mid (logits m c) (masks m c) :=
  (reshape_end _).trans ((congrArg (fun v : IVec S1x16384 32 => shapeCast S16384 v shapeCasts_S1x16384_S16384)
    ((array_eq m c 5).trans (final5 m c hpre))).trans (row_cast _))

/-- The kernel's run, read: its four results are the reference's functions of its arguments, the arguments unchanged. -/
theorem run_values (hpre : ∀ c, NoTie m c) :
    θ_run defs (onTc (τ := τ) (main (F := Ideal))) ⟨m, fun _ => 0, ρ⟩ fun r => ∀ c : Dev nD,
      r.2.mem ((c : Thread nD τ).loc main_v1) = mscore (logits m c)
      ∧ r.2.mem ((c : Thread nD τ).loc main_v2) = cls (logits m c)
      ∧ r.2.mem ((c : Thread nD τ).loc main_v0_2) = weighted (logits m c) (masks m c)
      ∧ r.2.mem ((c : Thread nD τ).loc main_v3) = mid (logits m c) (masks m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1.rest_eq c main_v1 (by decide)).trans (scores_end m c),
      (h.1.rest_eq c main_v2 (by decide)).trans (classes_end m c),
      (h.1.out_eq c 4).trans (final4 m c (hpre c)),
      (h.1.rest_eq c main_v3 (by decide)).trans (winners_end m c (hpre c)), (h.2.1 c).1, (h.2.1 c).2⟩)
    (θ_run_and (run_main m ρ) (frame m ρ))

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Run
public import proofs.«01_k».proof.Proof.Same
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- On equal arguments, where the precondition holds, the kernel and the reference end with equal results: both runs are
    read at the reference's functions of the kernel's arguments. -/
theorem algebraic : Cert.algebraic_KernelIdeal_ReferenceIdeal := by
  intro m g m' g' hpre hagree
  refine ⟨fun c => Cert.ReferenceIdeal.Hand.mscore (Cert.KernelIdeal.Hand.logits m c),
    fun c => Cert.ReferenceIdeal.Hand.cls (Cert.KernelIdeal.Hand.logits m c),
    fun c => Cert.ReferenceIdeal.Hand.weighted (Cert.KernelIdeal.Hand.logits m c) (Cert.KernelIdeal.Hand.masks m c),
    fun c => Cert.ReferenceIdeal.Hand.mid (Cert.KernelIdeal.Hand.logits m c) (Cert.KernelIdeal.Hand.masks m c),
    Cert.KernelIdeal.Hand.run_values m g hpre, ?_⟩
  refine (θ_run Cert.ReferenceIdeal.defs _ _).mono (fun r h c => ?_) (Cert.ReferenceIdeal.Hand.run_main (F := Ideal) m' g')
  obtain ⟨h1, h2, h3, h4, h5, h6⟩ := h c
  rw [(hagree c).1] at h1 h2
  rw [(hagree c).1, (hagree c).2] at h3 h4
  exact ⟨h1, h2, h3, h4, h5, h6⟩

theorem claim : Cert.Claim := ⟨Cert.Kernel.Gen.facts, Cert.KernelIdeal.Gen.facts, Cert.ReferenceIdeal.Gen.facts, Cert.Pre_no_tie.Gen.facts,
  fun m g _ => Cert.Kernel.Hand.frame m g,
  fun m g _ => Cert.Kernel.Hand.frame m g,
  fun m g _ => Cert.KernelIdeal.Hand.frame m g,
  fun m g _ => Cert.ReferenceIdeal.Hand.frame m g,
  fun m g _ => Cert.ReferenceIdeal.Hand.frame m g,
  trivial,
  algebraic⟩

end Cert.Proof

end
